-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 2048]⟩ ⟨2, ![16384, 2048]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S16384x1024 : Shape := ⟨2, ![16384, 1024]⟩
abbrev S16x512x1024 : Shape := ⟨3, ![16, 512, 1024]⟩
abbrev S8x512x1024 : Shape := ⟨3, ![8, 512, 1024]⟩
abbrev S16 : Shape := ⟨1, ![16]⟩
abbrev S8 : Shape := ⟨1, ![8]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 2
  | .vmem => 3
  | .smem => 0
  | _ => 0

abbrev bufTy : (tb : Table) → Fin (tcTables nBuf tb) → BufTy
  | .hbm, ⟨0, _⟩ => ⟨S8192x2048, .f32⟩
  | .hbm, ⟨1, _⟩ => ⟨S16384x1024, .f32⟩
  | .local _ .vmem, ⟨0, _⟩ => ⟨S16x512x1024, .f32⟩
  | .local _ .vmem, ⟨1, _⟩ => ⟨S8x512x1024, .f32⟩
  | .local _ .vmem, ⟨2, _⟩ => ⟨S8x512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) : Fin 2 → Nat :=
  let c0_i32_16 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v17 : BitVec 32 := Scalar.muli v2 c1024_i32
  ![0, v17.toNat]
def k0_off2 (d0 : Dev nD) : Fin 2 → Nat :=
  let c512_i32 : BitVec 32 := 512#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_17 : BitVec 32 := 1024#32
  let v23 : BitVec 32 := Scalar.muli v2 c1024_i32_17
  ![512, v23.toNat]
def k0_off3 (d0 : Dev nD) : Fin 2 → Nat :=
  let c1024_i32_27 : BitVec 32 := 1024#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_22 : BitVec 32 := 1024#32
  let v29 : BitVec 32 := Scalar.muli v2 c1024_i32_22
  ![1024, v29.toNat]
def k0_off4 (d0 : Dev nD) : Fin 2 → Nat :=
  let c1536_i32 : BitVec 32 := 1536#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_28 : BitVec 32 := 1024#32
  let v35 : BitVec 32 := Scalar.muli v2 c1024_i32_28
  ![1536, v35.toNat]
def k0_off5 (d0 : Dev nD) : Fin 2 → Nat :=
  let c2048_i32 : BitVec 32 := 2048#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_32 : BitVec 32 := 1024#32
  let v41 : BitVec 32 := Scalar.muli v2 c1024_i32_32
  ![2048, v41.toNat]
def k0_off6 (d0 : Dev nD) : Fin 2 → Nat :=
  let c2560_i32 : BitVec 32 := 2560#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_36 : BitVec 32 := 1024#32
  let v47 : BitVec 32 := Scalar.muli v2 c1024_i32_36
  ![2560, v47.toNat]
def k0_off7 (d0 : Dev nD) : Fin 2 → Nat :=
  let c3072_i32 : BitVec 32 := 3072#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_40 : BitVec 32 := 1024#32
  let v53 : BitVec 32 := Scalar.muli v2 c1024_i32_40
  ![3072, v53.toNat]
def k0_off8 (d0 : Dev nD) : Fin 2 → Nat :=
  let c3584_i32 : BitVec 32 := 3584#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_44 : BitVec 32 := 1024#32
  let v59 : BitVec 32 := Scalar.muli v2 c1024_i32_44
  ![3584, v59.toNat]
def k0_off9 (d0 : Dev nD) : Fin 2 → Nat :=
  let c4096_i32 : BitVec 32 := 4096#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_48 : BitVec 32 := 1024#32
  let v65 : BitVec 32 := Scalar.muli v2 c1024_i32_48
  ![4096, v65.toNat]
def k0_off10 (d0 : Dev nD) : Fin 2 → Nat :=
  let c4608_i32 : BitVec 32 := 4608#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_52 : BitVec 32 := 1024#32
  let v71 : BitVec 32 := Scalar.muli v2 c1024_i32_52
  ![4608, v71.toNat]
def k0_off11 (d0 : Dev nD) : Fin 2 → Nat :=
  let c5120_i32 : BitVec 32 := 5120#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_56 : BitVec 32 := 1024#32
  let v77 : BitVec 32 := Scalar.muli v2 c1024_i32_56
  ![5120, v77.toNat]
def k0_off12 (d0 : Dev nD) : Fin 2 → Nat :=
  let c5632_i32 : BitVec 32 := 5632#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_60 : BitVec 32 := 1024#32
  let v83 : BitVec 32 := Scalar.muli v2 c1024_i32_60
  ![5632, v83.toNat]
def k0_off13 (d0 : Dev nD) : Fin 2 → Nat :=
  let c6144_i32 : BitVec 32 := 6144#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_64 : BitVec 32 := 1024#32
  let v89 : BitVec 32 := Scalar.muli v2 c1024_i32_64
  ![6144, v89.toNat]
def k0_off14 (d0 : Dev nD) : Fin 2 → Nat :=
  let c6656_i32 : BitVec 32 := 6656#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_68 : BitVec 32 := 1024#32
  let v95 : BitVec 32 := Scalar.muli v2 c1024_i32_68
  ![6656, v95.toNat]
def k0_off15 (d0 : Dev nD) : Fin 2 → Nat :=
  let c7168_i32 : BitVec 32 := 7168#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_72 : BitVec 32 := 1024#32
  let v101 : BitVec 32 := Scalar.muli v2 c1024_i32_72
  ![7168, v101.toNat]
def k0_off16 (d0 : Dev nD) : Fin 2 → Nat :=
  let c7680_i32 : BitVec 32 := 7680#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_76 : BitVec 32 := 1024#32
  let v107 : BitVec 32 := Scalar.muli v2 c1024_i32_76
  ![7680, v107.toNat]
def k0_off17 (d0 : Dev nD) (c0_i32_85 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32_80 : BitVec 32 := 4096#32
  let v113 : BitVec 32 := Scalar.muli v5 c4096_i32_80
  let v121 : BitVec 32 := Scalar.addi v113 c0_i32_85
  let c1_i32_86 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v122 : BitVec 32 := Scalar.subi c1_i32_86 v2
  let c1024_i32_87 : BitVec 32 := 1024#32
  let v123 : BitVec 32 := Scalar.muli v122 c1024_i32_87
  ![v121.toNat, v123.toNat]
def k0_off18 (d0 : Dev nD) (c0_i32_145 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v114 : BitVec 32 := Scalar.muli v2 c8192_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32_81 : BitVec 32 := 4096#32
  let v115 : BitVec 32 := Scalar.muli v5 c4096_i32_81
  let v116 : BitVec 32 := Scalar.addi v114 v115
  let v190 : BitVec 32 := Scalar.addi v116 c0_i32_145
  let c0_i32_152 : BitVec 32 := 0#32
  ![v190.toNat, 0]
def k0_dev3 (d0 : Dev nD) : Nat :=
  let c0_i32_150 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_149 : BitVec 32 := 2#32
  let v191 : BitVec 32 := Scalar.muli v6 c2_i32_149
  let v192 : BitVec 32 := Scalar.addi c0_i32_150 v191
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_151 : BitVec 32 := 1#32
  let v193 : BitVec 32 := Scalar.muli v5 c1_i32_151
  let v194 : BitVec 32 := Scalar.addi v192 v193
  v194.toNat
def k0_dev4 (d0 : Dev nD) : Nat :=
  let c0_i32_164 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_163 : BitVec 32 := 2#32
  let v208 : BitVec 32 := Scalar.muli v6 c2_i32_163
  let v209 : BitVec 32 := Scalar.addi c0_i32_164 v208
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_165 : BitVec 32 := 1#32
  let v210 : BitVec 32 := Scalar.muli v5 c1_i32_165
  let v211 : BitVec 32 := Scalar.addi v209 v210
  v211.toNat
def k0_dev5 (d0 : Dev nD) : Nat :=
  let c0_i32_178 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_177 : BitVec 32 := 2#32
  let v225 : BitVec 32 := Scalar.muli v6 c2_i32_177
  let v226 : BitVec 32 := Scalar.addi c0_i32_178 v225
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_179 : BitVec 32 := 1#32
  let v227 : BitVec 32 := Scalar.muli v5 c1_i32_179
  let v228 : BitVec 32 := Scalar.addi v226 v227
  v228.toNat
def k0_dev6 (d0 : Dev nD) : Nat :=
  let c0_i32_192 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_191 : BitVec 32 := 2#32
  let v242 : BitVec 32 := Scalar.muli v6 c2_i32_191
  let v243 : BitVec 32 := Scalar.addi c0_i32_192 v242
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_193 : BitVec 32 := 1#32
  let v244 : BitVec 32 := Scalar.muli v5 c1_i32_193
  let v245 : BitVec 32 := Scalar.addi v243 v244
  v245.toNat
def k0_dev7 (d0 : Dev nD) : Nat :=
  let c0_i32_206 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_205 : BitVec 32 := 2#32
  let v259 : BitVec 32 := Scalar.muli v6 c2_i32_205
  let v260 : BitVec 32 := Scalar.addi c0_i32_206 v259
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_207 : BitVec 32 := 1#32
  let v261 : BitVec 32 := Scalar.muli v5 c1_i32_207
  let v262 : BitVec 32 := Scalar.addi v260 v261
  v262.toNat
def k0_dev8 (d0 : Dev nD) : Nat :=
  let c0_i32_220 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_219 : BitVec 32 := 2#32
  let v276 : BitVec 32 := Scalar.muli v6 c2_i32_219
  let v277 : BitVec 32 := Scalar.addi c0_i32_220 v276
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v278 : BitVec 32 := Scalar.muli v5 c1_i32_221
  let v279 : BitVec 32 := Scalar.addi v277 v278
  v279.toNat
def k0_dev9 (d0 : Dev nD) : Nat :=
  let c0_i32_234 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_233 : BitVec 32 := 2#32
  let v293 : BitVec 32 := Scalar.muli v6 c2_i32_233
  let v294 : BitVec 32 := Scalar.addi c0_i32_234 v293
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_235 : BitVec 32 := 1#32
  let v295 : BitVec 32 := Scalar.muli v5 c1_i32_235
  let v296 : BitVec 32 := Scalar.addi v294 v295
  v296.toNat
def k0_dev10 (d0 : Dev nD) : Nat :=
  let c0_i32_248 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_247 : BitVec 32 := 2#32
  let v310 : BitVec 32 := Scalar.muli v6 c2_i32_247
  let v311 : BitVec 32 := Scalar.addi c0_i32_248 v310
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_249 : BitVec 32 := 1#32
  let v312 : BitVec 32 := Scalar.muli v5 c1_i32_249
  let v313 : BitVec 32 := Scalar.addi v311 v312
  v313.toNat
def k0_off19 (d0 : Dev nD) (c0_i32_263 : BitVec 32) : Fin 2 → Nat :=
  let c1_i32_82 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v117 : BitVec 32 := Scalar.subi c1_i32_82 v2
  let c8192_i32_83 : BitVec 32 := 8192#32
  let v118 : BitVec 32 := Scalar.muli v117 c8192_i32_83
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32_84 : BitVec 32 := 4096#32
  let v119 : BitVec 32 := Scalar.muli v5 c4096_i32_84
  let v120 : BitVec 32 := Scalar.addi v118 v119
  let v331 : BitVec 32 := Scalar.addi v120 c0_i32_263
  let c0_i32_269 : BitVec 32 := 0#32
  ![v331.toNat, 0]
def k0_dev11 (d0 : Dev nD) : Nat :=
  let c0_i32_267 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_266 : BitVec 32 := 2#32
  let v332 : BitVec 32 := Scalar.muli v2 c2_i32_266
  let v333 : BitVec 32 := Scalar.addi c0_i32_267 v332
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_268 : BitVec 32 := 1#32
  let v334 : BitVec 32 := Scalar.muli v7 c1_i32_268
  let v335 : BitVec 32 := Scalar.addi v333 v334
  v335.toNat
def k0_off20 (d0 : Dev nD) (c0_i32_277 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32_276 : BitVec 32 := 8192#32
  let v347 : BitVec 32 := Scalar.muli v2 c8192_i32_276
  let v348 : BitVec 32 := Scalar.addi v347 c0_i32_277
  let c0_i32_280 : BitVec 32 := 0#32
  ![v348.toNat, 0]
def k0_dev12 (d0 : Dev nD) : Nat :=
  let c0_i32_309 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_308 : BitVec 32 := 2#32
  let v377 : BitVec 32 := Scalar.muli v2 c2_i32_308
  let v378 : BitVec 32 := Scalar.addi c0_i32_309 v377
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_310 : BitVec 32 := 1#32
  let v379 : BitVec 32 := Scalar.muli v7 c1_i32_310
  let v380 : BitVec 32 := Scalar.addi v378 v379
  v380.toNat
def k0_dev13 (d0 : Dev nD) : Nat :=
  let c0_i32_351 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_350 : BitVec 32 := 2#32
  let v422 : BitVec 32 := Scalar.muli v2 c2_i32_350
  let v423 : BitVec 32 := Scalar.addi c0_i32_351 v422
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_352 : BitVec 32 := 1#32
  let v424 : BitVec 32 := Scalar.muli v7 c1_i32_352
  let v425 : BitVec 32 := Scalar.addi v423 v424
  v425.toNat
def k0_dev14 (d0 : Dev nD) : Nat :=
  let c0_i32_393 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_392 : BitVec 32 := 2#32
  let v467 : BitVec 32 := Scalar.muli v2 c2_i32_392
  let v468 : BitVec 32 := Scalar.addi c0_i32_393 v467
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_394 : BitVec 32 := 1#32
  let v469 : BitVec 32 := Scalar.muli v7 c1_i32_394
  let v470 : BitVec 32 := Scalar.addi v468 v469
  v470.toNat
def k0_dev15 (d0 : Dev nD) : Nat :=
  let c0_i32_435 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_434 : BitVec 32 := 2#32
  let v512 : BitVec 32 := Scalar.muli v2 c2_i32_434
  let v513 : BitVec 32 := Scalar.addi c0_i32_435 v512
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_436 : BitVec 32 := 1#32
  let v514 : BitVec 32 := Scalar.muli v7 c1_i32_436
  let v515 : BitVec 32 := Scalar.addi v513 v514
  v515.toNat
def k0_dev16 (d0 : Dev nD) : Nat :=
  let c0_i32_477 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_476 : BitVec 32 := 2#32
  let v557 : BitVec 32 := Scalar.muli v2 c2_i32_476
  let v558 : BitVec 32 := Scalar.addi c0_i32_477 v557
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_478 : BitVec 32 := 1#32
  let v559 : BitVec 32 := Scalar.muli v7 c1_i32_478
  let v560 : BitVec 32 := Scalar.addi v558 v559
  v560.toNat
def k0_dev17 (d0 : Dev nD) : Nat :=
  let c0_i32_519 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_518 : BitVec 32 := 2#32
  let v602 : BitVec 32 := Scalar.muli v2 c2_i32_518
  let v603 : BitVec 32 := Scalar.addi c0_i32_519 v602
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_520 : BitVec 32 := 1#32
  let v604 : BitVec 32 := Scalar.muli v7 c1_i32_520
  let v605 : BitVec 32 := Scalar.addi v603 v604
  v605.toNat
def k0_dev18 (d0 : Dev nD) : Nat :=
  let c0_i32_561 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_560 : BitVec 32 := 2#32
  let v647 : BitVec 32 := Scalar.muli v2 c2_i32_560
  let v648 : BitVec 32 := Scalar.addi c0_i32_561 v647
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_562 : BitVec 32 := 1#32
  let v649 : BitVec 32 := Scalar.muli v7 c1_i32_562
  let v650 : BitVec 32 := Scalar.addi v648 v649
  v650.toNat
-- ==== ReferenceIdeal.lean ====
abbrev S16384x2048 : Shape := ⟨2, ![16384, 2048]⟩

abbrev nBuf : Space → Nat
  | .hbm => 1
  | .vmem => 0
  | .smem => 0
  | _ => 0

abbrev bufTy : (tb : Table) → Fin (tcTables nBuf tb) → BufTy
  | .hbm, ⟨0, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Prog.lean ====
/-
# The body of the kernel as loops

The printed body is some 1900 statements in 31 parts. This module names the views it moves, as functions of the
chunk number, restates the body as a few loops over chunk numbers, and shows that the printed body is that program.
-/
module

public import proofs.«01_k».proof.Proof.Gen.KernelIdeal
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelProof

open Cert.KernelIdeal Cert.KernelIdeal.Gen
open Idealize.ShloMosaic Idealize.ShloMosaic.TcCoe
open Idealize.SL Idealize.SL.Sem

variable {F : FTy → Type} [FloatOps F]

/-- The programs of this kernel's body. -/
abbrev Code (F : FTy → Type) [FloatOps F] := Prog (TpuEff nD τ sig (Elt F) Λ₀ .tc) PUnit

/-! ## Views -/

/-- A chunk in HBM: 512 rows of 1024 numbers. -/
abbrev HChunk := Memref sig .tc .hbm S512x1024 .f32
/-- A chunk in VMEM. -/
abbrev VChunk := Memref sig .tc .vmem S512x1024 .f32

/-- The corner in `x` of the `k`-th chunk of the device's own columns. -/
def ownOff (c : Dev nD) : Fin 16 → Fin 2 → ℕ :=
  ![k0_off1 c, k0_off2 c, k0_off3 c, k0_off4 c, k0_off5 c, k0_off6 c, k0_off7 c, k0_off8 c,
    k0_off9 c, k0_off10 c, k0_off11 c, k0_off12 c, k0_off13 c, k0_off14 c, k0_off15 c, k0_off16 c]

/-- That corner is at row `512 k` and at the device's own columns. -/
theorem ownOff_eq (c : Dev nD) (k : Fin 16) : ownOff c k = ![512 * k.val, 1024 * (c.val / 2)] := by
  fin_cases k
  exacts [k0_off1_eq c, k0_off2_eq c, k0_off3_eq c, k0_off4_eq c, k0_off5_eq c, k0_off6_eq c, k0_off7_eq c, k0_off8_eq c,
    k0_off9_eq c, k0_off10_eq c, k0_off11_eq c, k0_off12_eq c, k0_off13_eq c, k0_off14_eq c, k0_off15_eq c, k0_off16_eq c]

/-- A chunk of the device's own columns lies inside `x`. -/
theorem ownOff_inb (c : Dev nD) (k : Fin 16) (a : Fin 2) : ownOff c k a + S512x1024.size a ≤ S8192x2048.size a := by
  rw [ownOff_eq]
  have hk := k.isLt
  have hc : c.val < 4 := c.isLt
  fin_cases a
  · show 512 * k.val + 512 ≤ 8192; omega
  · show 1024 * (c.val / 2) + 1024 ≤ 2048; omega

/-- The `k`-th chunk of the device's own columns of `x`: what stays on this row of the mesh. -/
abbrev xOwn (c : Dev nD) (k : Fin 16) : HChunk :=
  (Memref.whole main_arg0).slice (Rect.unit (s := S8192x2048) (ownOff c k) S512x1024.size (ownOff_inb c k)) (fun _ => rfl)
/-- The `k`-th chunk of the other columns of `x`, of the half this device sends across. -/
abbrev xSend (c : Dev nD) (k : Fin 8) : HChunk :=
  (Memref.whole main_arg0).slice (Rect.unit (s := S8192x2048) (k0_off17 c (BitVec.ofNat 32 (512 * k.val))) S512x1024.size (k0_off17_inb c k)) (fun _ => rfl)
/-- Where the `k`-th chunk sent across lands, on the device it is sent to. -/
abbrev oSend (c : Dev nD) (k : Fin 8) : HChunk :=
  (Memref.whole main_v1).slice (Rect.unit (s := S16384x1024) (k0_off18 c (BitVec.ofNat 32 (512 * k.val))) S512x1024.size (k0_off18_inb c k)) (fun _ => rfl)
/-- The `k`-th chunk passed on: at the same place of the result on the sender and on the receiver. -/
abbrev oPass (c : Dev nD) (k : Fin 8) : HChunk :=
  (Memref.whole main_v1).slice (Rect.unit (s := S16384x1024) (k0_off19 c (BitVec.ofNat 32 (512 * k.val))) S512x1024.size (k0_off19_inb c k)) (fun _ => rfl)
/-- Where the `k`-th chunk of the device's own columns lands in its own result. -/
abbrev oOwn (c : Dev nD) (k : Fin 16) : HChunk :=
  (Memref.whole main_v1).slice (Rect.unit (s := S16384x1024) (k0_off20 c (BitVec.ofNat 32 (512 * k.val))) S512x1024.size (k0_off20_inb c k)) (fun _ => rfl)

/-- A slot lies inside the buffer of sixteen. -/
theorem slot16_inb (k : Fin 16) (a : Fin 3) : (![k.val, 0, 0] : Fin 3 → ℕ) a + S1x512x1024.size a ≤ S16x512x1024.size a := by
  have hk := k.isLt
  fin_cases a
  · show k.val + 1 ≤ 16; omega
  · show 0 + 512 ≤ 512; omega
  · show 0 + 1024 ≤ 1024; omega
/-- A slot lies inside the buffer of eight. -/
theorem slot8_inb (k : Fin 8) (a : Fin 3) : (![k.val, 0, 0] : Fin 3 → ℕ) a + S1x512x1024.size a ≤ S8x512x1024.size a := by
  have hk := k.isLt
  fin_cases a
  · show k.val + 1 ≤ 8; omega
  · show 0 + 512 ≤ 512; omega
  · show 0 + 1024 ≤ 1024; omega

/-- The `k`-th slot of the buffer the device's own columns pass through. -/
abbrev vOwn (k : Fin 16) : VChunk :=
  ((Memref.whole cc0_scratch0).slice (Rect.unit (s := S16x512x1024) ![k.val, 0, 0] S1x512x1024.size (slot16_inb k)) (fun _ => rfl)).squeeze S512x1024 squeezes_S1x512x1024_S512x1024
/-- The `k`-th slot of the buffer of the chunks sent across. -/
abbrev vSend (k : Fin 8) : VChunk :=
  ((Memref.whole cc0_scratch1).slice (Rect.unit (s := S8x512x1024) ![k.val, 0, 0] S1x512x1024.size (slot8_inb k)) (fun _ => rfl)).squeeze S512x1024 squeezes_S1x512x1024_S512x1024

/-- A semaphore lies inside its array of sixteen. -/
theorem sem16_inb (k : Fin 16) (a : Fin 1) : (![k.val] : Fin 1 → ℕ) a + S1.size a ≤ S16.size a := by
  have hk := k.isLt
  fin_cases a; show k.val + 1 ≤ 16; omega
/-- A semaphore lies inside its array of eight. -/
theorem sem8_inb (k : Fin 8) (a : Fin 1) : (![k.val] : Fin 1 → ℕ) a + S1.size a ≤ S8.size a := by
  have hk := k.isLt
  fin_cases a; show k.val + 1 ≤ 8; omega

/-- The `k`-th semaphore of an array of sixteen. -/
abbrev at16 (A : DmaSems sig S16) (k : Fin 16) : DmaSem sig :=
  ((A.slice (Rect.unit (s := S16) ![k.val] S1.size (sem16_inb k))).squeeze S_ squeezes_S1_S_).sem
/-- The `k`-th semaphore of an array of eight. -/
abbrev at8 (A : DmaSems sig S8) (k : Fin 8) : DmaSem sig :=
  ((A.slice (Rect.unit (s := S8) ![k.val] S1.size (sem8_inb k))).squeeze S_ squeezes_S1_S_).sem

/-- The barrier semaphore of the kernel's collective. -/
abbrev barS : Sem sig := (SemArray.scalar (sig.barrier 0 rfl) : Sems sig S_).sem

/-! ## Neighbours -/

/-- The device the printed program signals first: the neighbour along the first axis. -/
def across (c : Dev nD) : Dev nD := ⟨k0_dev1 c, k0_dev1_lt c⟩
/-- The device the printed program signals second: the neighbour along the second axis. -/
def beside (c : Dev nD) : Dev nD := ⟨k0_dev2 c, k0_dev2_lt c⟩
/-- The device the `k`-th chunk is sent across to. -/
def sendTo (c : Dev nD) : Fin 8 → Dev nD :=
  ![⟨k0_dev3 c, k0_dev3_lt c⟩, ⟨k0_dev4 c, k0_dev4_lt c⟩, ⟨k0_dev5 c, k0_dev5_lt c⟩, ⟨k0_dev6 c, k0_dev6_lt c⟩,
    ⟨k0_dev7 c, k0_dev7_lt c⟩, ⟨k0_dev8 c, k0_dev8_lt c⟩, ⟨k0_dev9 c, k0_dev9_lt c⟩, ⟨k0_dev10 c, k0_dev10_lt c⟩]
/-- The device the `k`-th chunk is passed on to. -/
def passTo (c : Dev nD) : Fin 8 → Dev nD :=
  ![⟨k0_dev11 c, k0_dev11_lt c⟩, ⟨k0_dev12 c, k0_dev12_lt c⟩, ⟨k0_dev13 c, k0_dev13_lt c⟩, ⟨k0_dev14 c, k0_dev14_lt c⟩,
    ⟨k0_dev15 c, k0_dev15_lt c⟩, ⟨k0_dev16 c, k0_dev16_lt c⟩, ⟨k0_dev17 c, k0_dev17_lt c⟩, ⟨k0_dev18 c, k0_dev18_lt c⟩]

/-- Every chunk is sent across to the neighbour along the first axis. -/
theorem sendTo_eq (c : Dev nD) (k : Fin 8) : sendTo c k = across c := by
  apply Fin.ext
  fin_cases k
  exacts [(k0_dev3_eq c).trans (k0_dev1_eq c).symm, (k0_dev4_eq c).trans (k0_dev1_eq c).symm, (k0_dev5_eq c).trans (k0_dev1_eq c).symm,
    (k0_dev6_eq c).trans (k0_dev1_eq c).symm, (k0_dev7_eq c).trans (k0_dev1_eq c).symm, (k0_dev8_eq c).trans (k0_dev1_eq c).symm,
    (k0_dev9_eq c).trans (k0_dev1_eq c).symm, (k0_dev10_eq c).trans (k0_dev1_eq c).symm]
/-- Every chunk is passed on to the neighbour along the second axis. -/
theorem passTo_eq (c : Dev nD) (k : Fin 8) : passTo c k = beside c := by
  apply Fin.ext
  fin_cases k
  exacts [(k0_dev11_eq c).trans (k0_dev2_eq c).symm, (k0_dev12_eq c).trans (k0_dev2_eq c).symm, (k0_dev13_eq c).trans (k0_dev2_eq c).symm,
    (k0_dev14_eq c).trans (k0_dev2_eq c).symm, (k0_dev15_eq c).trans (k0_dev2_eq c).symm, (k0_dev16_eq c).trans (k0_dev2_eq c).symm,
    (k0_dev17_eq c).trans (k0_dev2_eq c).symm, (k0_dev18_eq c).trans (k0_dev2_eq c).symm]

/-! ## The single steps -/

/-- Start to fetch the `k`-th chunk of the device's own columns. -/
def fetchOwn (c : Dev nD) (k : Fin 16) : Code F :=
  Prog.lift (.enqueueDma (xOwn c k) (.here (vOwn k)) (.dma (at16 cc0_scratch3 k)) (View.wordExact_bits rfl) ((View.wordExact_bits rfl).reshape _ _) ⟨Or.inl rfl, trivial⟩)
/-- Start to fetch the `k`-th chunk to send across. -/
def fetchSend (c : Dev nD) (k : Fin 8) : Code F :=
  Prog.lift (.enqueueDma (xSend c k) (.here (vSend k)) (.dma (at8 cc0_scratch5 k)) (View.wordExact_bits rfl) ((View.wordExact_bits rfl).reshape _ _) ⟨Or.inl rfl, trivial⟩)
/-- Wait for the `k`-th chunk to send across. -/
def awaitSend (c : Dev nD) (k : Fin 8) : Code F :=
  Prog.lift (.waitDma2 (at8 cc0_scratch5 k) (xSend c k) (vSend k) (View.wordExact_bits rfl) ((View.wordExact_bits rfl).reshape _ _))
/-- Send the `k`-th chunk across. -/
def send (c : Dev nD) (k : Fin 8) : Code F :=
  Prog.lift (.enqueueDma (vSend k) (.remote (Dev.tc (sendTo c k)) (oSend c k) (.dma (at8 cc0_scratch6 k))) (.dma (at8 cc0_scratch7 k)) ((View.wordExact_bits rfl).reshape _ _) (View.wordExact_bits rfl) ⟨⟨rfl, Or.inl rfl⟩, trivial⟩)
/-- Wait for the `k`-th chunk sent here from across. -/
def awaitRecv (c : Dev nD) (k : Fin 8) : Code F :=
  Prog.lift (.waitDma2 (at8 cc0_scratch7 k) (vSend k) (oSend c k) ((View.wordExact_bits rfl).reshape _ _) (View.wordExact_bits rfl))
/-- Pass the `k`-th chunk on. -/
def pass (c : Dev nD) (k : Fin 8) : Code F :=
  Prog.lift (.enqueueDma (oPass c k) (.remote (Dev.tc (passTo c k)) (oPass c k) (.dma (at8 cc0_scratch8 k))) (.dma (at8 cc0_scratch9 k)) (View.wordExact_bits rfl) (View.wordExact_bits rfl) ⟨⟨rfl, Or.inl rfl⟩, trivial⟩)
/-- Wait for the `k`-th chunk of the device's own columns. -/
def awaitOwn (c : Dev nD) (k : Fin 16) : Code F :=
  Prog.lift (.waitDma2 (at16 cc0_scratch3 k) (xOwn c k) (vOwn k) (View.wordExact_bits rfl) ((View.wordExact_bits rfl).reshape _ _))
/-- Start to store the `k`-th chunk of the device's own columns in its result. -/
def storeOwn (c : Dev nD) (k : Fin 16) : Code F :=
  Prog.lift (.enqueueDma (vOwn k) (.here (oOwn c k)) (.dma (at16 cc0_scratch4 k)) ((View.wordExact_bits rfl).reshape _ _) (View.wordExact_bits rfl) ⟨Or.inl rfl, trivial⟩)
/-- Wait until the `k`-th chunk sent across has left. -/
def awaitSent (c : Dev nD) (k : Fin 8) : Code F :=
  Prog.lift (.waitDma2 (at8 cc0_scratch6 k) (oSend c k) (vSend k) (View.wordExact_bits rfl) ((View.wordExact_bits rfl).reshape _ _))
/-- Wait until the `k`-th chunk passed on has left. -/
def awaitPassed (c : Dev nD) (k : Fin 8) : Code F :=
  Prog.lift (.waitDma2 (at8 cc0_scratch8 k) (oPass c k) (oPass c k) (View.wordExact_bits rfl) (View.wordExact_bits rfl))
/-- Wait for the `k`-th chunk passed on to here. -/
def awaitOther (c : Dev nD) (k : Fin 8) : Code F :=
  Prog.lift (.waitDma2 (at8 cc0_scratch9 k) (oPass c k) (oPass c k) (View.wordExact_bits rfl) (View.wordExact_bits rfl))
/-- Wait until the `k`-th chunk of the device's own columns is stored. -/
def awaitStored (c : Dev nD) (k : Fin 16) : Code F :=
  Prog.lift (.waitDma2 (at16 cc0_scratch4 k) (vOwn k) (oOwn c k) ((View.wordExact_bits rfl).reshape _ _) (View.wordExact_bits rfl))

/-! ## The body -/

/-- `f 0`, then `f 1`, and so on up to `f (n - 1)`. -/
def loop : (n : ℕ) → (Fin n → Code F) → Code F
  | 0, _ => pure ⟨⟩
  | n + 1, f => do f 0; loop n fun i => f i.succ

/-- The first of the two own chunks that are turned round with the `k`-th passed chunk. -/
abbrev even (k : Fin 8) : Fin 16 := ⟨2 * k.val, by omega⟩
/-- The second of them. -/
abbrev odd (k : Fin 8) : Fin 16 := ⟨2 * k.val + 1, by omega⟩

/-- Meet both neighbours at the barrier. -/
def meet (c : Dev nD) : Code F := do
  semSignalWord (across c) barS 1#32
  semSignalWord (beside c) barS 1#32
  semWaitWord barS 2#32

/-- Wait for a chunk to send and send it. -/
def sendStep (c : Dev nD) (k : Fin 8) : Code F := do awaitSend c k; send c k
/-- Wait for an own chunk and start to store it. -/
def ownStep (c : Dev nD) (k : Fin 16) : Code F := do awaitOwn c k; storeOwn c k
/-- Wait for a chunk from across and pass it on; then turn two own chunks round. -/
def passStep (c : Dev nD) (k : Fin 8) : Code F := do awaitRecv c k; pass c k; ownStep c (even k); ownStep c (odd k)
/-- Wait for the three remote copies of one number. -/
def settleStep (c : Dev nD) (k : Fin 8) : Code F := do awaitSent c k; awaitPassed c k; awaitOther c k

/-- The kernel's body on the device `c`. -/
def script (c : Dev nD) : Code F := do
  meet c
  loop 16 (fetchOwn c)
  loop 8 (fetchSend c)
  loop 8 (sendStep c)
  loop 8 (passStep c)
  loop 8 (settleStep c)
  loop 16 (awaitStored c)

set_option maxRecDepth 65536 in
/-- The printed body reads its device's number and then runs the script. -/
theorem body_eq (t : Fin cfg0.N) : bodyAt0 (F := F) t = (do let c ← Prog.lift .deviceId; script c) := rfl

end Cert.KernelProof

end
-- ==== Proof.Tiles.lean ====
/-
# The chunks of the buffers

Every copy of the kernel moves a chunk of 512 rows of 1024 numbers. This module names the parts of the buffers the
chunks are, what each buffer holds once its chunks have arrived, and shows chunk by chunk that a copy carries the
one buffer's contents to the other's.
-/
module

public import proofs.«01_k».proof.Proof.Prog
public import Idealize.ShloMosaic.Lib.ValueLayout

@[expose] public section

noncomputable section

namespace Cert.KernelProof

open Cert.KernelIdeal Cert.KernelIdeal.Gen
open Idealize.ShloMosaic Idealize.ShloMosaic.TcCoe

variable {F : FTy → Type} [FloatOps F]

/-! ## The mesh -/

/-- The device's place along the first axis. -/
def mx (c : Dev nD) : ℕ := c.val / 2
/-- The device's place along the second axis. -/
def my (c : Dev nD) : ℕ := c.val % 2

theorem mx_lt (c : Dev nD) : mx c < 2 := by have : c.val < 4 := c.isLt; show c.val / 2 < 2; omega
theorem my_lt (c : Dev nD) : my c < 2 := by show c.val % 2 < 2; omega
/-- The number of a device from its place. -/
theorem dev_val (c : Dev nD) : c.val = 2 * mx c + my c := by unfold mx my; omega

theorem across_val (c : Dev nD) : (across c).val = 2 * (1 - mx c) + my c := by
  have h : (across c).val = _ := k0_dev1_eq c
  have := mx_lt c; rw [h]; unfold mx my at *; omega
theorem beside_val (c : Dev nD) : (beside c).val = 2 * mx c + (1 - my c) := by
  have h : (beside c).val = _ := k0_dev2_eq c
  have := my_lt c; rw [h]; unfold mx my at *; omega
theorem mx_across (c : Dev nD) : mx (across c) = 1 - mx c := by
  have := my_lt c; show (across c).val / 2 = _; rw [across_val]; omega
theorem my_across (c : Dev nD) : my (across c) = my c := by
  have := my_lt c; show (across c).val % 2 = _; rw [across_val]; omega
theorem mx_beside (c : Dev nD) : mx (beside c) = mx c := by
  have := my_lt c; show (beside c).val / 2 = _; rw [beside_val]; omega
theorem my_beside (c : Dev nD) : my (beside c) = 1 - my c := by
  have := my_lt c; show (beside c).val % 2 = _; rw [beside_val]; omega
/-- Going across twice leads back. -/
theorem across_across (c : Dev nD) : across (across c) = c := by
  apply Fin.ext; have := mx_lt c; rw [across_val, mx_across, my_across, dev_val c]; omega
/-- Going beside twice leads back. -/
theorem beside_beside (c : Dev nD) : beside (beside c) = c := by
  apply Fin.ext; have := my_lt c; rw [beside_val, mx_beside, my_beside, dev_val c]; omega

/-! ## Parts of the buffers -/

/-- The `t`-th run of 512 rows of the result. -/
def rows (t : ℕ) : Finset S16384x1024.Idx := Finset.univ.filter fun i => (i 0).val / 512 = t
/-- The `t`-th run of 512 rows of the `h`-th half of the columns of `x`. -/
def block (t h : ℕ) : Finset S8192x2048.Idx := Finset.univ.filter fun i => (i 0).val / 512 = t ∧ (i 1).val / 1024 = h
/-- The `k`-th slot of the buffer of sixteen. -/
def slot16 (k : Fin 16) : Finset S16x512x1024.Idx := Finset.univ.filter fun i => (i 0).val = k.val
/-- The `k`-th slot of the buffer of eight. -/
def slot8 (k : Fin 8) : Finset S8x512x1024.Idx := Finset.univ.filter fun i => (i 0).val = k.val

/-- The run of rows of the result that a device's own `k`-th chunk fills. -/
def tOwn (c : Dev nD) (k : Fin 16) : ℕ := 16 * mx c + k.val
/-- The run of rows of the result that the `k`-th chunk from across fills. -/
def tNear (c : Dev nD) (k : Fin 8) : ℕ := 16 * (1 - mx c) + 8 * my c + k.val
/-- The run of rows of the result that the `k`-th chunk passed on from beside fills. -/
def tFar (c : Dev nD) (k : Fin 8) : ℕ := 16 * (1 - mx c) + 8 * (1 - my c) + k.val

theorem tFar_beside (c : Dev nD) (k : Fin 8) : tFar (beside c) k = tNear c k := by
  have := my_lt c; unfold tFar tNear; rw [mx_beside, my_beside]; omega

/-- A rectangle of 512 whole rows of the result is a run of rows. -/
theorem rows_rect {off : Fin 2 → ℕ} (inb : ∀ a, off a + S512x1024.size a ≤ S16384x1024.size a) {t : ℕ} (h : off = ![512 * t, 0]) :
    (Rect.unit (s := S16384x1024) off S512x1024.size inb).set = rows t := by
  subst h
  ext i
  rw [Rect.mem_set_unit, rows, Finset.mem_filter, Fin.forall_fin_two]
  have h1 : (i 1).val < 1024 := (i 1).isLt
  show (512 * t ≤ (i 0).val ∧ (i 0).val < 512 * t + 512) ∧ (0 ≤ (i 1).val ∧ (i 1).val < 0 + 1024) ↔ _
  constructor
  · rintro ⟨⟨h2, h3⟩, -⟩; exact ⟨Finset.mem_univ _, by omega⟩
  · rintro ⟨-, h2⟩; omega
/-- A rectangle of 512 rows and half of the columns of `x` is a block. -/
theorem block_rect {off : Fin 2 → ℕ} (inb : ∀ a, off a + S512x1024.size a ≤ S8192x2048.size a) {t h : ℕ} (e : off = ![512 * t, 1024 * h]) :
    (Rect.unit (s := S8192x2048) off S512x1024.size inb).set = block t h := by
  subst e
  ext i
  rw [Rect.mem_set_unit, block, Finset.mem_filter, Fin.forall_fin_two]
  show (512 * t ≤ (i 0).val ∧ (i 0).val < 512 * t + 512) ∧ (1024 * h ≤ (i 1).val ∧ (i 1).val < 1024 * h + 1024) ↔ _
  constructor
  · rintro ⟨⟨h2, h3⟩, h4, h5⟩; exact ⟨Finset.mem_univ _, by omega, by omega⟩
  · rintro ⟨-, h2, h3⟩; omega

theorem off_oOwn (c : Dev nD) (k : Fin 16) : k0_off20 c (BitVec.ofNat 32 (512 * k.val)) = ![512 * tOwn c k, 0] := by
  rw [k0_off20_eq c ⟨k.val, k.isLt⟩, show 8192 * (c.val / 2) + 512 * k.val = 512 * tOwn c k from by unfold tOwn mx; omega]
theorem off_oSend (c : Dev nD) (k : Fin 8) : k0_off18 c (BitVec.ofNat 32 (512 * k.val)) = ![512 * tNear (across c) k, 0] := by
  have hx := mx_lt c
  rw [k0_off18_eq c k, show 8192 * (c.val / 2) + 4096 * (c.val % 2) + 512 * k.val = 512 * tNear (across c) k from by
    unfold tNear; rw [mx_across, my_across]; unfold mx my at *; omega]
theorem off_oPass (c : Dev nD) (k : Fin 8) : k0_off19 c (BitVec.ofNat 32 (512 * k.val)) = ![512 * tNear c k, 0] := by
  have hx := mx_lt c
  rw [k0_off19_eq c k, show 4096 * (c.val % 2) + 512 * k.val + 8192 - 8192 * (c.val / 2) = 512 * tNear c k from by
    unfold tNear mx my at *; omega]
theorem off_xSend (c : Dev nD) (k : Fin 8) :
    k0_off17 c (BitVec.ofNat 32 (512 * k.val)) = ![512 * (8 * my c + k.val), 1024 * (1 - mx c)] := by
  rw [k0_off17_eq c k, show 4096 * (c.val % 2) + 512 * k.val = 512 * (8 * my c + k.val) from by unfold my; omega,
    show 1024 - 1024 * (c.val / 2) = 1024 * (1 - mx c) from by unfold mx; omega]

theorem set_oOwn (c : Dev nD) (k : Fin 16) : (oOwn c k).view.set = rows (tOwn c k) :=
  (View.set_slice_whole _ _).trans (rows_rect _ (off_oOwn c k))
theorem set_oSend (c : Dev nD) (k : Fin 8) : (oSend c k).view.set = rows (tNear (across c) k) :=
  (View.set_slice_whole _ _).trans (rows_rect _ (off_oSend c k))
theorem set_oPass (c : Dev nD) (k : Fin 8) : (oPass c k).view.set = rows (tNear c k) :=
  (View.set_slice_whole _ _).trans (rows_rect _ (off_oPass c k))
theorem set_xOwn (c : Dev nD) (k : Fin 16) : (xOwn c k).view.set = block k.val (mx c) :=
  (View.set_slice_whole _ _).trans (block_rect _ (ownOff_eq c k))
theorem set_xSend (c : Dev nD) (k : Fin 8) : (xSend c k).view.set = block (8 * my c + k.val) (1 - mx c) :=
  (View.set_slice_whole _ _).trans (block_rect _ (off_xSend c k))
theorem set_vOwn (k : Fin 16) : (vOwn k).view.set = slot16 k := by
  refine (View.set_reshape _ _).trans ((View.set_slice_whole _ _).trans ?_)
  refine Finset.ext fun (i : S16x512x1024.Idx) => (Rect.mem_set_unit ..).trans ?_
  rw [slot16, Finset.mem_filter]
  refine (Fin.forall_fin_succ (n := 2)).trans ((and_congr Iff.rfl Fin.forall_fin_two).trans ?_)
  have h1 : (i 1).val < 512 := (i 1).isLt
  have h2 : (i 2).val < 1024 := (i 2).isLt
  show (k.val ≤ (i 0).val ∧ (i 0).val < k.val + 1) ∧ (0 ≤ (i 1).val ∧ (i 1).val < 0 + 512) ∧ (0 ≤ (i 2).val ∧ (i 2).val < 0 + 1024) ↔ _
  constructor
  · rintro ⟨⟨h3, h4⟩, -⟩; exact ⟨Finset.mem_univ _, by omega⟩
  · rintro ⟨-, h3⟩; omega
theorem set_vSend (k : Fin 8) : (vSend k).view.set = slot8 k := by
  refine (View.set_reshape _ _).trans ((View.set_slice_whole _ _).trans ?_)
  refine Finset.ext fun (i : S8x512x1024.Idx) => (Rect.mem_set_unit ..).trans ?_
  rw [slot8, Finset.mem_filter]
  refine (Fin.forall_fin_succ (n := 2)).trans ((and_congr Iff.rfl Fin.forall_fin_two).trans ?_)
  have h1 : (i 1).val < 512 := (i 1).isLt
  have h2 : (i 2).val < 1024 := (i 2).isLt
  show (k.val ≤ (i 0).val ∧ (i 0).val < k.val + 1) ∧ (0 ≤ (i 1).val ∧ (i 1).val < 0 + 512) ∧ (0 ≤ (i 2).val ∧ (i 2).val < 0 + 1024) ↔ _
  constructor
  · rintro ⟨⟨h3, h4⟩, -⟩; exact ⟨Finset.mem_univ _, by omega⟩
  · rintro ⟨-, h3⟩; omega

/-! ## Where the numbers of a chunk lie -/

theorem emb_rows {off : Fin 2 → ℕ} (inb : ∀ a, off a + S512x1024.size a ≤ S16384x1024.size a) {t : ℕ} (h : off = ![512 * t, 0]) (y : S512x1024.Idx) :
    ((Rect.unit (s := S16384x1024) off S512x1024.size inb).emb y 0).val = 512 * t + (y 0).val
      ∧ ((Rect.unit (s := S16384x1024) off S512x1024.size inb).emb y 1).val = (y 1).val := by
  subst h
  constructor
  · show 512 * t + 1 * (y 0).val = _; omega
  · show 0 + 1 * (y 1).val = _; omega
theorem emb_block {off : Fin 2 → ℕ} (inb : ∀ a, off a + S512x1024.size a ≤ S8192x2048.size a) {t h : ℕ} (e : off = ![512 * t, 1024 * h]) (y : S512x1024.Idx) :
    ((Rect.unit (s := S8192x2048) off S512x1024.size inb).emb y 0).val = 512 * t + (y 0).val
      ∧ ((Rect.unit (s := S8192x2048) off S512x1024.size inb).emb y 1).val = 1024 * h + (y 1).val := by
  subst e
  constructor
  · show 512 * t + 1 * (y 0).val = _; omega
  · show 1024 * h + 1 * (y 1).val = _; omega

theorem emb_oOwn (c : Dev nD) (k : Fin 16) (y : S512x1024.Idx) :
    ((oOwn c k).view.emb y 0).val = 512 * tOwn c k + (y 0).val ∧ ((oOwn c k).view.emb y 1).val = (y 1).val :=
  emb_rows _ (off_oOwn c k) y
theorem emb_oSend (c : Dev nD) (k : Fin 8) (y : S512x1024.Idx) :
    ((oSend c k).view.emb y 0).val = 512 * tNear (across c) k + (y 0).val ∧ ((oSend c k).view.emb y 1).val = (y 1).val :=
  emb_rows _ (off_oSend c k) y
theorem emb_oPass (c : Dev nD) (k : Fin 8) (y : S512x1024.Idx) :
    ((oPass c k).view.emb y 0).val = 512 * tNear c k + (y 0).val ∧ ((oPass c k).view.emb y 1).val = (y 1).val :=
  emb_rows _ (off_oPass c k) y
theorem emb_xOwn (c : Dev nD) (k : Fin 16) (y : S512x1024.Idx) :
    ((xOwn c k).view.emb y 0).val = 512 * k.val + (y 0).val ∧ ((xOwn c k).view.emb y 1).val = 1024 * mx c + (y 1).val :=
  emb_block _ (ownOff_eq c k) y
theorem emb_xSend (c : Dev nD) (k : Fin 8) (y : S512x1024.Idx) :
    ((xSend c k).view.emb y 0).val = 512 * (8 * my c + k.val) + (y 0).val
      ∧ ((xSend c k).view.emb y 1).val = 1024 * (1 - mx c) + (y 1).val :=
  emb_block _ (off_xSend c k) y
theorem emb_vOwn (k : Fin 16) (y : S512x1024.Idx) :
    ((vOwn k).view.emb y 0).val = k.val ∧ ((vOwn k).view.emb y 1).val = (y 0).val ∧ ((vOwn k).view.emb y 2).val = (y 1).val := by
  have e : (vOwn k).view.emb y = (Rect.unit (s := S16x512x1024) ![k.val, 0, 0] S1x512x1024.size (slot16_inb k)).emb
      (Fin.cons (α := fun a : Fin 3 => S1x512x1024.Coord a) ⟨0, Nat.one_pos⟩ y) :=
    congrArg (Rect.unit (s := S16x512x1024) ![k.val, 0, 0] S1x512x1024.size (slot16_inb k)).emb (Shape.reshapeEquiv_cons_one (d := ![512, 1024]) _ y)
  rw [e]
  refine ⟨?_, ?_, ?_⟩
  · show k.val + 1 * 0 = _; omega
  · show 0 + 1 * (y 0).val = _; omega
  · show 0 + 1 * (y 1).val = _; omega
theorem emb_vSend (k : Fin 8) (y : S512x1024.Idx) :
    ((vSend k).view.emb y 0).val = k.val ∧ ((vSend k).view.emb y 1).val = (y 0).val ∧ ((vSend k).view.emb y 2).val = (y 1).val := by
  have e : (vSend k).view.emb y = (Rect.unit (s := S8x512x1024) ![k.val, 0, 0] S1x512x1024.size (slot8_inb k)).emb
      (Fin.cons (α := fun a : Fin 3 => S1x512x1024.Coord a) ⟨0, Nat.one_pos⟩ y) :=
    congrArg (Rect.unit (s := S8x512x1024) ![k.val, 0, 0] S1x512x1024.size (slot8_inb k)).emb (Shape.reshapeEquiv_cons_one (d := ![512, 1024]) _ y)
  rw [e]
  refine ⟨?_, ?_, ?_⟩
  · show k.val + 1 * 0 = _; omega
  · show 0 + 1 * (y 0).val = _; omega
  · show 0 + 1 * (y 1).val = _; omega

/-! ## What the buffers hold -/

/-- The index of `x` at a row and a column. -/
def xAt (r j : ℕ) : S8192x2048.Idx := fun a => match a with
  | ⟨0, _⟩ => ⟨r % 8192, Nat.mod_lt _ (by decide)⟩
  | ⟨1, _⟩ => ⟨j % 2048, Nat.mod_lt _ (by decide)⟩

/-- An index of `x` is the one at its row and column. -/
theorem eq_xAt {i : S8192x2048.Idx} {r j : ℕ} (hr : (i 0).val = r) (hj : (i 1).val = j) : i = xAt r j := by
  subst hr hj
  funext a
  have h0 : (i 0).val < 8192 := (i 0).isLt
  have h1 : (i 1).val < 2048 := (i 1).isLt
  match a with
  | ⟨0, _⟩ => exact Fin.ext (Nat.mod_eq_of_lt h0).symm
  | ⟨1, _⟩ => exact Fin.ext (Nat.mod_eq_of_lt h1).symm

/-- The device whose rows of `x` the row `r` of the device's result comes from by way of the copies: the device
    itself for its own rows, and for the others the one beside or across that holds the half they lie in. -/
def homeOf (c : Dev nD) (r : ℕ) : Dev nD :=
  if r / 8192 = mx c then c else ⟨(2 * (r / 8192) + r % 8192 / 4096) % 4, Nat.mod_lt _ (by decide)⟩

variable (m : (ℓ : Loc nD τ sig) → Buf (Elt F) ℓ)

/-- The device's block of `x` at the launch. -/
def xF (c : Dev nD) : S8192x2048.Idx → Elt F .f32 := m ((c : Thread nD τ).loc main_arg0)
/-- What the device's result holds at the launch. -/
def oInit (c : Dev nD) : S16384x1024.Idx → Elt F .f32 := m ((c : Thread nD τ).loc main_v1)
/-- What the buffer of sixteen holds once every chunk is fetched: the device's own columns. -/
def vF (c : Dev nD) : S16x512x1024.Idx → Elt F .f32 :=
  fun i => xF m c (xAt (512 * (i 0).val + (i 1).val) (1024 * mx c + (i 2).val))
/-- What the buffer of eight holds once every chunk is fetched: the half of the other columns that is sent across. -/
def sF (c : Dev nD) : S8x512x1024.Idx → Elt F .f32 :=
  fun i => xF m c (xAt (512 * (8 * my c + (i 0).val) + (i 1).val) (1024 * (1 - mx c) + (i 2).val))
/-- What the result holds at the end. -/
def oF (c : Dev nD) : S16384x1024.Idx → Elt F .f32 :=
  fun i => xF m (homeOf c (i 0).val) (xAt ((i 0).val % 8192) (1024 * mx c + (i 1).val))

/-! ## A copy carries one buffer's contents to the other's -/

/-- Fetching an own chunk. -/
theorem carry_fetchOwn (c : Dev nD) (k : Fin 16) :
    (xOwn c k).view.read (Elt F) (xF m c) = (vOwn k).view.read (Elt F) (vF m c) := by
  funext y
  obtain ⟨h0, h1⟩ := emb_xOwn c k y
  obtain ⟨g0, g1, g2⟩ := emb_vOwn k y
  show xF m c ((xOwn c k).view.emb y) = vF m c ((vOwn k).view.emb y)
  unfold vF
  rw [g0, g1, g2]
  exact congrArg _ (eq_xAt h0 h1)
/-- Fetching a chunk to send. -/
theorem carry_fetchSend (c : Dev nD) (k : Fin 8) :
    (xSend c k).view.read (Elt F) (xF m c) = (vSend k).view.read (Elt F) (sF m c) := by
  funext y
  obtain ⟨h0, h1⟩ := emb_xSend c k y
  obtain ⟨g0, g1, g2⟩ := emb_vSend k y
  show xF m c ((xSend c k).view.emb y) = sF m c ((vSend k).view.emb y)
  unfold sF
  rw [g0, g1, g2]
  exact congrArg _ (eq_xAt h0 h1)
/-- Storing an own chunk. -/
theorem carry_storeOwn (c : Dev nD) (k : Fin 16) :
    (vOwn k).view.read (Elt F) (vF m c) = (oOwn c k).view.read (Elt F) (oF m c) := by
  funext y
  obtain ⟨h0, h1⟩ := emb_oOwn c k y
  obtain ⟨g0, g1, g2⟩ := emb_vOwn k y
  show vF m c ((vOwn k).view.emb y) = oF m c ((oOwn c k).view.emb y)
  unfold vF oF
  have hy : (y 0).val < 512 := (y 0).isLt
  have hk := k.isLt
  rw [g0, g1, g2, h0, h1, homeOf, if_pos (by unfold tOwn; omega)]
  congr 2
  unfold tOwn; omega
/-- Sending a chunk across: it lands in the result of the device across. -/
theorem carry_send (c : Dev nD) (k : Fin 8) :
    (vSend k).view.read (Elt F) (sF m c) = (oSend c k).view.read (Elt F) (oF m (across c)) := by
  funext y
  obtain ⟨h0, h1⟩ := emb_oSend c k y
  obtain ⟨g0, g1, g2⟩ := emb_vSend k y
  show sF m c ((vSend k).view.emb y) = oF m (across c) ((oSend c k).view.emb y)
  unfold sF oF
  have hy : (y 0).val < 512 := (y 0).isLt
  have hk := k.isLt
  have hx := mx_lt c
  have hz := my_lt c
  have ht : tNear (across c) k = 16 * mx c + 8 * my c + k.val := by unfold tNear; rw [mx_across, my_across]; omega
  rw [g0, g1, g2, h0, h1, ht, homeOf, mx_across, if_neg (by omega)]
  have e : (⟨(2 * ((512 * (16 * mx c + 8 * my c + k.val) + (y 0).val) / 8192) + (512 * (16 * mx c + 8 * my c + k.val) + (y 0).val) % 8192 / 4096) % 4,
      Nat.mod_lt _ (by decide)⟩ : Dev nD) = c := by
    apply Fin.ext; have := dev_val c; show _ % 4 = _; omega
  rw [e]
  congr 2
  omega
/-- Passing a chunk on: it lands at the same place of the result of the device beside. -/
theorem carry_pass (c : Dev nD) (k : Fin 8) :
    (oPass c k).view.read (Elt F) (oF m c) = (oPass c k).view.read (Elt F) (oF m (beside c)) := by
  funext y
  obtain ⟨h0, h1⟩ := emb_oPass c k y
  show oF m c ((oPass c k).view.emb y) = oF m (beside c) ((oPass c k).view.emb y)
  unfold oF
  have hy : (y 0).val < 512 := (y 0).isLt
  have hk := k.isLt
  have hx := mx_lt c
  have hz := my_lt c
  have ht : tNear c k = 16 * (1 - mx c) + 8 * my c + k.val := rfl
  rw [h0, h1, ht, homeOf, homeOf, mx_beside, if_neg (by omega), if_neg (by omega)]

end Cert.KernelProof

end
-- ==== Proof.Sched.lean ====
/-
# The protocol of the semaphores

Every semaphore of a device counts one thing: the barrier its two neighbours' signals, each of the 72 DMA semaphores
one copy. This module numbers the semaphores by that purpose, says which parts of the buffers each hands to the one
who waits for it, what a device owes its neighbours at the launch, and in which order the waits are served.
-/
module

public import proofs.«01_k».proof.Proof.Tiles

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The ghost state of this kernel's semaphores: each duty of a semaphore has a boolean name. -/
abbrev UB : Type := URounds (GSem nD τ sig) Bool
/-- The launch's ghost state and this kernel's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores by purpose -/

/-- A copy: a fetch of an own chunk, a store of one, a fetch of a chunk to send, and for each of the two remote
    copies that it has left here and that its counterpart has arrived here. -/
abbrev Spot : Type := Fin 16 ⊕ (Fin 16 ⊕ (Fin 8 ⊕ (Fin 8 ⊕ (Fin 8 ⊕ (Fin 8 ⊕ Fin 8)))))
/-- What a semaphore counts: meeting the neighbours, or a copy. -/
abbrev Use : Type := Unit ⊕ Spot

/-- The neighbours have arrived. -/
abbrev kBar : Use := .inl ()
/-- An own chunk is fetched. -/
abbrev kIn (k : Fin 16) : Use := .inr (.inl k)
/-- An own chunk is stored. -/
abbrev kOut (k : Fin 16) : Use := .inr (.inr (.inl k))
/-- A chunk to send is fetched. -/
abbrev kLoad (k : Fin 8) : Use := .inr (.inr (.inr (.inl k)))
/-- A chunk sent across has left. -/
abbrev kSent (k : Fin 8) : Use := .inr (.inr (.inr (.inr (.inl k))))
/-- A chunk from across has arrived. -/
abbrev kRecv (k : Fin 8) : Use := .inr (.inr (.inr (.inr (.inr (.inl k)))))
/-- A chunk passed on has left. -/
abbrev kPassed (k : Fin 8) : Use := .inr (.inr (.inr (.inr (.inr (.inr (.inl k))))))
/-- A chunk from beside has arrived. -/
abbrev kOther (k : Fin 8) : Use := .inr (.inr (.inr (.inr (.inr (.inr (.inr k))))))

/-- The copies in the order of their semaphores. -/
def spotSem : Spot ≃ DmaSem sig :=
  ((Equiv.sumCongr (Equiv.refl _) ((Equiv.sumCongr (Equiv.refl _) ((Equiv.sumCongr (Equiv.refl _) ((Equiv.sumCongr (Equiv.refl _)
    ((Equiv.sumCongr (Equiv.refl _) finSumFinEquiv).trans finSumFinEquiv)).trans finSumFinEquiv)).trans finSumFinEquiv)).trans finSumFinEquiv)).trans
    finSumFinEquiv).trans (finCongr rfl)

/-- The semaphore of a purpose. -/
def semOf : Use ≃ SemLoc sig :=
  (Equiv.sumCongr (Equiv.ofUnique Unit (Sem sig)) spotSem).trans (SemLoc.equivSum sig).symm

theorem semOf_bar : semOf kBar = .reg barS := rfl
theorem semOf_in (k : Fin 16) : semOf (kIn k) = .dma (at16 cc0_scratch3 k) := congrArg SemLoc.dma (by revert k; decide)
theorem semOf_out (k : Fin 16) : semOf (kOut k) = .dma (at16 cc0_scratch4 k) := congrArg SemLoc.dma (by revert k; decide)
theorem semOf_load (k : Fin 8) : semOf (kLoad k) = .dma (at8 cc0_scratch5 k) := congrArg SemLoc.dma (by revert k; decide)
theorem semOf_sent (k : Fin 8) : semOf (kSent k) = .dma (at8 cc0_scratch6 k) := congrArg SemLoc.dma (by revert k; decide)
theorem semOf_recv (k : Fin 8) : semOf (kRecv k) = .dma (at8 cc0_scratch7 k) := congrArg SemLoc.dma (by revert k; decide)
theorem semOf_passed (k : Fin 8) : semOf (kPassed k) = .dma (at8 cc0_scratch8 k) := congrArg SemLoc.dma (by revert k; decide)
theorem semOf_other (k : Fin 8) : semOf (kOther k) = .dma (at8 cc0_scratch9 k) := congrArg SemLoc.dma (by revert k; decide)

/-- The semaphore of a purpose on a device. -/
def cell (c : Dev nD) (i : Use) : GSem nD τ sig := ((c : Thread nD τ), semOf i)
/-- The purpose of a semaphore. -/
def kindOf (g : GSem nD τ sig) : Use := semOf.symm g.2

theorem kindOf_cell (c : Dev nD) (i : Use) : kindOf (cell c i) = i := semOf.symm_apply_apply i
theorem cell_inj {c c' : Dev nD} {i i' : Use} (h : cell c i = cell c' i') : c = c' ∧ i = i' :=
  ⟨congrArg (fun g : GSem nD τ sig => g.1.1) h, semOf.injective (congrArg Prod.snd h)⟩

/-! ## Parts of the buffers -/

/-- A run of rows of a device's result at given contents. -/
def oPts (c : Dev nD) (t : ℕ) (f : S16384x1024.Idx → Elt F .f32) : sProp 𝕄 :=
  (c : Thread nD τ).loc main_v1 ↦[rows t]{fullShare} f
/-- A block of a device's `x` at given contents. -/
def xPts (c : Dev nD) (t h : ℕ) (f : S8192x2048.Idx → Elt F .f32) : sProp 𝕄 :=
  (c : Thread nD τ).loc main_arg0 ↦[block t h]{fullShare} f
/-- A slot of a device's buffer of sixteen at given contents. -/
def vPts (c : Dev nD) (k : Fin 16) (f : S16x512x1024.Idx → Elt F .f32) : sProp 𝕄 :=
  (c : Thread nD τ).loc cc0_scratch0 ↦[slot16 k]{fullShare} f
/-- A slot of a device's buffer of eight at given contents. -/
def sPts (c : Dev nD) (k : Fin 8) (f : S8x512x1024.Idx → Elt F .f32) : sProp 𝕄 :=
  (c : Thread nD τ).loc cc0_scratch1 ↦[slot8 k]{fullShare} f

instance oPts_storable (c : Dev nD) (t : ℕ) (f) : BI.Storable (upEmb : UEmb _ 𝕄) (oPts (F := F) c t f) := by unfold oPts; infer_instance
instance xPts_storable (c : Dev nD) (t h : ℕ) (f) : BI.Storable (upEmb : UEmb _ 𝕄) (xPts (F := F) c t h f) := by unfold xPts; infer_instance
instance vPts_storable (c : Dev nD) (k) (f) : BI.Storable (upEmb : UEmb _ 𝕄) (vPts (F := F) c k f) := by unfold vPts; infer_instance
instance sPts_storable (c : Dev nD) (k) (f) : BI.Storable (upEmb : UEmb _ 𝕄) (sPts (F := F) c k f) := by unfold sPts; infer_instance

variable (m : (ℓ : Loc nD τ sig) → Buf (Elt F) ℓ)

/-! ## The schedule -/

/-- What a copy of a chunk adds to its semaphore. -/
def N : ℕ := (vOwn 0).view.dmaCredit
theorem N_pos : 0 < N := View.dmaCredit_pos _ (by decide)
theorem N_eq : (vOwn 0).view.dmaCredit = N := rfl
attribute [irreducible] N

/-- What a semaphore of the device `c` hands to it. A neighbour's signal hands over the rows of the neighbour's
    result that `c` will write; an arrival hands over the rows or the slot at their final contents, together with what
    the copy read if it was this device's. -/
def pay (c : Dev nD) : Use → Bool → sProp 𝕄
  | .inl _, true => bigSep Finset.univ fun k : Fin 8 => oPts (across c) (tNear (across c) k) (oInit m (across c))
  | .inl _, false => bigSep Finset.univ fun k : Fin 8 => oPts (beside c) (tFar (beside c) k) (oInit m (beside c))
  | .inr (.inl k), _ => iprop(vPts c k (vF m c) ∗ xPts c k.val (mx c) (xF m c))
  | .inr (.inr (.inl k)), _ => iprop(oPts c (tOwn c k) (oF m c) ∗ vPts c k (vF m c))
  | .inr (.inr (.inr (.inl k))), _ => iprop(sPts c k (sF m c) ∗ xPts c (8 * my c + k.val) (1 - mx c) (xF m c))
  | .inr (.inr (.inr (.inr (.inl k)))), _ => sPts c k (sF m c)
  | .inr (.inr (.inr (.inr (.inr (.inl k))))), _ => oPts c (tNear c k) (oF m c)
  | .inr (.inr (.inr (.inr (.inr (.inr (.inl k)))))), _ => oPts c (tNear c k) (oF m c)
  | .inr (.inr (.inr (.inr (.inr (.inr (.inr k)))))), _ => oPts c (tFar c k) (oF m c)

instance pay_storable (c : Dev nD) (i : Use) (d : Bool) : BI.Storable (upEmb : UEmb _ 𝕄) (pay m c i d) := by
  unfold pay; split <;> infer_instance

/-- The duties of a semaphore: a signal of each neighbour, or one copy. -/
def dutiesOf : Use → Finset Bool
  | .inl _ => Finset.univ
  | .inr _ => {false}
/-- What one duty adds. -/
def amountOf : Use → ℕ
  | .inl _ => 1
  | .inr _ => N

theorem amountOf_pos : ∀ i, 0 < amountOf i
  | .inl _ => Nat.one_pos
  | .inr _ => N_pos

/-- Every semaphore serves one round. -/
def Rd : Rounds.Schedule (GSem nD τ sig) Bool 𝕄 where
  duties g r := if r = 0 ∧ g.1.2 = .tc then dutiesOf (kindOf g) else ∅
  unitless _ := False
  amount g _ _ := amountOf (kindOf g)
  payload g _ d := pay m g.1.1 (kindOf g) d
  amount_pos g _ _ _ := amountOf_pos (kindOf g)

instance Rd_payload_storable (g : GSem nD τ sig) (r : ℕ) (d : Bool) :
    BI.Storable (upEmb : UEmb _ 𝕄) ((Rd (F := F) m).payload g r d) :=
  inferInstanceAs (BI.Storable (upEmb : UEmb _ 𝕄) (pay m g.1.1 (kindOf g) d))

omit [FloatOps F] in
theorem Rd_duties (c : Dev nD) (i : Use) : (Rd (F := F) m).duties (cell c i) 0 = dutiesOf i := by
  have h : (0 : ℕ) = 0 ∧ (cell c i).1.2 = .tc := ⟨rfl, rfl⟩
  have e : (Rd (F := F) m).duties (cell c i) 0 = if (0 : ℕ) = 0 ∧ (cell c i).1.2 = .tc then dutiesOf (kindOf (cell c i)) else ∅ := rfl
  rw [e, if_pos h, kindOf_cell]
omit [FloatOps F] in
theorem Rd_later (g : GSem nD τ sig) : ∀ r, 1 ≤ r → (Rd (F := F) m).duties g r = ∅ :=
  fun r hr => if_neg fun h => by omega
omit [FloatOps F] in
theorem Rd_amount (c : Dev nD) (i : Use) (d : Bool) : (Rd (F := F) m).amount (cell c i) 0 d = amountOf i :=
  congrArg amountOf (kindOf_cell c i)
omit [FloatOps F] in
theorem Rd_payload (c : Dev nD) (i : Use) (d : Bool) : (Rd (F := F) m).payload (cell c i) 0 d = pay m c i d :=
  congrArg (fun i => pay m c i d) (kindOf_cell c i)
omit [FloatOps F] in
/-- What a semaphore's round adds up to. -/
theorem Rd_expect_eq (c : Dev nD) (i : Use) : (Rd (F := F) m).expect (cell c i) 0 = ∑ d ∈ dutiesOf i, amountOf i := by
  have h : (Rd (F := F) m).expect (cell c i) 0 = ∑ d ∈ (Rd (F := F) m).duties (cell c i) 0, (Rd (F := F) m).amount (cell c i) 0 d := rfl
  rw [h, Rd_duties]
  exact Finset.sum_congr rfl fun d _ => Rd_amount m c i d
omit [FloatOps F] in
theorem Rd_expect_bar (c : Dev nD) : (Rd (F := F) m).expect (cell c kBar) 0 = 2 :=
  (Rd_expect_eq m c kBar).trans rfl
omit [FloatOps F] in
theorem Rd_expect (c : Dev nD) (s : Spot) : (Rd (F := F) m).expect (cell c (.inr s)) 0 = N :=
  (Rd_expect_eq m c (.inr s)).trans (Finset.sum_singleton (fun _ => N) false)
omit [FloatOps F] in
/-- All that the barrier hands over. -/
theorem Rd_rest_bar (c : Dev nD) :
    bigSep ((Rd (F := F) m).duties (cell c kBar) 0 \ ∅) (fun d => (Rd (F := F) m).payload (cell c kBar) 0 d)
      = iprop(pay m c kBar false ∗ pay m c kBar true) := by
  rw [Finset.sdiff_empty, Rd_duties, show dutiesOf kBar = Finset.univ from rfl, bigSep_univ_eq_bigSepL [false, true] (by decide) (by decide),
    bigSepL_cons_cons, bigSepL_singleton, Rd_payload, Rd_payload]
  rfl
omit [FloatOps F] in
/-- All that a copy's semaphore hands over. -/
theorem Rd_rest (c : Dev nD) (s : Spot) :
    bigSep ((Rd (F := F) m).duties (cell c (.inr s)) 0 \ ∅) (fun d => (Rd (F := F) m).payload (cell c (.inr s)) 0 d)
      = pay m c (.inr s) false := by
  rw [Finset.sdiff_empty, Rd_duties, show dutiesOf (.inr s) = {false} from rfl, bigSep_singleton, Rd_payload]

/-! ## What a device owes -/

/-- The credit of the copies numbered `j` and up to given semaphores. -/
def oweFrom (g : Fin 8 → GSem nD τ sig) (j : ℕ) : CellTallies nD τ sig Unit :=
  ∑ n ∈ Finset.univ.filter (fun n : Fin 8 => j ≤ n.val), tallyAt (g n) () N

/-- The lowest of them apart from the others. -/
theorem oweFrom_step (g : Fin 8 → GSem nD τ sig) (k : Fin 8) :
    oweFrom g k.val = oweFrom g (k.val + 1) + tallyAt (g k) () N := by
  unfold oweFrom
  rw [show (Finset.univ.filter fun n : Fin 8 => k.val ≤ n.val) = insert k (Finset.univ.filter fun n : Fin 8 => k.val + 1 ≤ n.val) from by
      ext n
      rw [Finset.mem_insert, Finset.mem_filter, Finset.mem_filter, Fin.ext_iff]
      have := Finset.mem_univ n
      constructor
      · rintro ⟨-, h⟩; by_cases e : n.val = k.val
        · exact Or.inl e
        · exact Or.inr ⟨this, by omega⟩
      · rintro (h | ⟨-, h⟩) <;> exact ⟨this, by omega⟩,
    Finset.sum_insert (by rw [Finset.mem_filter]; rintro ⟨-, h⟩; omega), add_comm]
/-- In the end none are left. -/
theorem oweFrom_end (g : Fin 8 → GSem nD τ sig) : oweFrom g 8 = 0 := by
  unfold oweFrom
  rw [Finset.filter_false_of_mem (fun n _ => by have := n.isLt; omega), Finset.sum_empty]

/-- What is owed is owed to one of them. -/
theorem oweFrom_pos {g : Fin 8 → GSem nD τ sig} {j : ℕ} {x : GSem nD τ sig} {u : Unit} (h : 0 < oweFrom g j x u) : ∃ n, x = g n := by
  unfold oweFrom at h
  rw [Finset.sum_apply, Finsupp.finset_sum_apply] at h
  obtain ⟨n, -, hn⟩ := Finset.exists_ne_zero_of_sum_ne_zero h.ne'
  rw [tallyAt_apply] at hn
  by_contra hx
  exact hn (if_neg fun e => hx ⟨n, e.1⟩)

/-- What a device owes the device across for the chunks it sends, from the `j`-th on. -/
abbrev oweSend (c : Dev nD) (j : ℕ) : CellTallies nD τ sig Unit := oweFrom (fun n => cell (across c) (kRecv n)) j
/-- What a device owes the device beside for the chunks it passes on, from the `j`-th on. -/
abbrev owePass (c : Dev nD) (j : ℕ) : CellTallies nD τ sig Unit := oweFrom (fun n => cell (beside c) (kOther n)) j
/-- What a device owes after its first signal. -/
def owe₁ (c : Dev nD) : CellTallies nD τ sig Unit := (owePass c 0 + oweSend c 0) + tallyAt (cell (beside c) kBar) () 1
/-- What a device owes at the launch. -/
def owe₀ (c : Dev nD) : CellTallies nD τ sig Unit := owe₁ c + tallyAt (cell (across c) kBar) () 1

/-! ## The order of the waits -/

/-- The order in which the semaphores are served: those of a device's own copies, the barrier, the arrivals from
    across, the arrivals from beside. -/
def rank : Use → ℕ
  | .inl _ => 1
  | .inr (.inr (.inr (.inr (.inr (.inl _))))) => 2
  | .inr (.inr (.inr (.inr (.inr (.inr (.inr _)))))) => 3
  | _ => 0

def L (g : GSem nD τ sig) : Finset Unit := if g.1.2 = .tc then {()} else ∅
def lv (g : GSem nD τ sig) (_ : Unit) : ℕ := rank (kindOf g)

theorem L_of_ne (g : GSem nD τ sig) (h : g.1.2 ≠ .tc) : L g = ∅ := if_neg h
theorem L_cell (c : Dev nD) (i : Use) : L (cell c i) = {()} := if_pos rfl
theorem lv_cell (c : Dev nD) (i : Use) (u : Unit) : lv (cell c i) u = rank i := congrArg rank (kindOf_cell c i)

omit [FloatOps F] in
/-- A device may wait on a semaphore that is served before all it owes. -/
theorem may_wait (c : Dev nD) (i : Use) (O : CellTallies nD τ sig Unit)
    (h : ∀ g u, 0 < O g u → ∃ c' i', g = cell c' i' ∧ rank i < rank i') :
    (levAts L lv : sProp 𝕄) ⊢ MayWait (c : Thread nD τ) (semOf i) () O :=
  MayOwe.of_cut (L := L) (lev := lv) (rank i)
    (fun p hp => by rw [Finset.mem_singleton.mp hp]; exact (L_cell c i).symm ▸ Finset.mem_singleton_self _)
    (fun g u hg => by obtain ⟨c', i', rfl, -⟩ := h g u hg; rw [L_cell]; exact Finset.mem_singleton_self _)
    (fun p hp => by rw [Finset.mem_singleton.mp hp]; exact (lv_cell c i ()).le)
    (fun g u hg => by obtain ⟨c', i', rfl, hi⟩ := h g u hg; rw [lv_cell]; exact hi)

/-- Everything a device owes for its copies is an arrival at a neighbour. -/
theorem owed_copies {c : Dev nD} {j j' : ℕ} {g : GSem nD τ sig} {u : Unit} (h : 0 < (owePass c j + oweSend c j') g u) :
    ∃ c' i', g = cell c' i' ∧ 1 < rank i' := by
  rw [Pi.add_apply, Finsupp.add_apply] at h
  rcases Nat.eq_zero_or_pos (owePass c j g u) with h0 | h0
  · obtain ⟨n, rfl⟩ := oweFrom_pos (show 0 < oweSend c j' g u by omega)
    exact ⟨_, _, rfl, by show _ < _; simp only [rank]; decide⟩
  · obtain ⟨n, rfl⟩ := oweFrom_pos h0
    exact ⟨_, _, rfl, by show _ < _; simp only [rank]; decide⟩
/-- Everything a device owes for the chunks it passes on is an arrival at the device beside. -/
theorem owed_pass {c : Dev nD} {j : ℕ} {g : GSem nD τ sig} {u : Unit} (h : 0 < owePass c j g u) :
    ∃ c' i', g = cell c' i' ∧ 2 < rank i' := by
  obtain ⟨n, rfl⟩ := oweFrom_pos h
  exact ⟨_, _, rfl, by show _ < _; simp only [rank]; decide⟩

end Cert.KernelProof

end
-- ==== Proof.Steps.lean ====
/-
# The steps of the body

One lemma per kind of step: starting a local copy, starting a remote copy, waiting for a copy, and running a loop
whose rounds each turn their own resources into others. Each is stated for any chunk.
-/
module

public import proofs.«01_k».proof.Proof.Sched

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Credits -/

theorem credit_vOwn (k : Fin 16) : (vOwn k).view.dmaCredit = N := (show _ = (vOwn 0).view.dmaCredit from rfl).trans N_eq
theorem credit_vSend (k : Fin 8) : (vSend k).view.dmaCredit = N := (show _ = (vOwn 0).view.dmaCredit from rfl).trans N_eq
theorem credit_oOwn (c : Dev nD) (k : Fin 16) : (oOwn c k).view.dmaCredit = N := (show _ = (vOwn 0).view.dmaCredit from rfl).trans N_eq
theorem credit_oSend (c : Dev nD) (k : Fin 8) : (oSend c k).view.dmaCredit = N := (show _ = (vOwn 0).view.dmaCredit from rfl).trans N_eq
theorem credit_oPass (c : Dev nD) (k : Fin 8) : (oPass c k).view.dmaCredit = N := (show _ = (vOwn 0).view.dmaCredit from rfl).trans N_eq

/-! ## What everyone knows -/

/-- Every semaphore follows the schedule, and its round is open; the order of the waits. -/
def recs (K : Dev nD × Use → ℕ) : sProp 𝕄 :=
  iprop((bigSep Finset.univ fun ci : Dev nD × Use => cellInv ER (Rd m) (K ci) (cell ci.1 ci.2))
    ∗ (bigSep Finset.univ fun ci : Dev nD × Use => reached ER (cell ci.1 ci.2) 0) ∗ levAts L lv)

instance recs_persistent (K : Dev nD × Use → ℕ) : BI.Persistent (recs m K) := by unfold recs; infer_instance

variable (K : Dev nD × Use → ℕ)

omit [FloatOps F] in
theorem recs_inv (c : Dev nD) (i : Use) : recs m K ⊢ cellInv ER (Rd m) (K (c, i)) (cell c i) := by
  classical
  unfold recs
  iintro ⟨#H, -, -⟩
  iapply (show _ ⊢ (cellInv ER (Rd m) (K (c, i)) (cell c i) : sProp 𝕄) from
    bigSep_elim (Φ := fun ci : Dev nD × Use => cellInv ER (Rd m) (K ci) (cell ci.1 ci.2)) (Finset.mem_univ (c, i)))
  iexact H
omit [FloatOps F] in
theorem recs_reached (c : Dev nD) (i : Use) : recs m K ⊢ reached ER (cell c i) 0 := by
  classical
  unfold recs
  iintro ⟨-, #H, -⟩
  iapply (show _ ⊢ (reached ER (cell c i) 0 : sProp 𝕄) from
    bigSep_elim (Φ := fun ci : Dev nD × Use => reached ER (cell ci.1 ci.2) 0) (Finset.mem_univ (c, i)))
  iexact H
omit [FloatOps F] in
theorem recs_lev : recs m K ⊢ (levAts L lv : sProp 𝕄) := by
  unfold recs
  iintro ⟨-, -, #H⟩
  iexact H

/-! ## Names for the resources -/

/-- The right to make the copy `s` of the device `c`. -/
abbrev tok (c : Dev nD) (i : Use) (d : Bool) : sProp 𝕄 := dutyTok ER (cell c i) 0 d
/-- The device `c` has not waited on its semaphore. -/
abbrev fresh (c : Dev nD) (i : Use) : sProp 𝕄 := atPos ER (cell c i) 0 ∅ 0
/-- The device `c` has waited on its semaphore. -/
abbrev spent (c : Dev nD) (i : Use) : sProp 𝕄 := atPos ER (cell c i) 1 ∅ 0
/-- The credit of a copy, with which its wait is entered. -/
abbrev ticket (c : Dev nD) (i : Use) : sProp 𝕄 := cred (tallyAt (cell c i) () N)
/-- What the device `c` still owes. -/
def debt (c : Dev nD) (O : CellTallies nD τ sig Unit) : sProp 𝕄 := iprop(∃ W, owes (c : Thread nD τ) O W)

/-- No loop of the program is proved by a variant. -/
abbrev 𝒱₀ : Variants := Variants.none

/-- A program of the device `c` from its resources to those it leaves. -/
abbrev run (c : Dev nD) (p : Code F) (Q : sProp 𝕄) : sProp 𝕄 :=
  wp frame (wpE (defs₀ (F := F)) 𝒱₀ (c : Thread nD τ) none) Set.univ p (fun _ => Q)

/-! ## Copies -/

section Copies
variable {sp sp' : Space} {s : Shape} {e : EltTy}

omit [FloatOps F] in
/-- Where a copy lands, the buffer agrees with contents that read there as the source does. -/
theorem landed {c' : Thread nD τ} (dst : Memref sig c'.2.kind sp' s e) (fd G : Buf (Elt F) (dst.view.loc c')) (w : s.Idx → Elt F e)
    (h : w = dst.view.read (Elt F) G) :
    (dst.view.loc c' ↦[dst.view.set]{fullShare} dst.view.write (Elt F) fd w Finset.univ : sProp 𝕄)
      = (dst.view.loc c' ↦[dst.view.set]{fullShare} G) := by
  refine pointsTo_congr fun i hi => ?_
  obtain ⟨x, -, rfl⟩ := Finset.mem_map.mp hi
  subst h
  rw [View.write_emb_of_mem _ _ (Finset.mem_univ x), View.read_apply, cast_cast]
  rfl

/-- Starting a local copy gives the credit for its semaphore; the source and the destination come back from the wait. -/
theorem run_local (c : Dev nD) (i : Spot) {src : Memref sig (c : Thread nD τ).2.kind sp s e} {dst : Memref sig (c : Thread nD τ).2.kind sp' s e} {q : DmaSem sig}
    (hq : semOf (.inr i) = .dma q)
    {hsrc : src.view.WordExact} {hdst : dst.view.WordExact} {hsem : DmaTarget.Typed (nD := nD) sp (.dma q) (.here dst)}
    {fs : Buf (Elt F) (src.view.loc (c : Thread nD τ))} {fd : Buf (Elt F) (dst.view.loc (c : Thread nD τ))} (G : Buf (Elt F) (dst.view.loc (c : Thread nD τ)))
    (hN : dst.view.dmaCredit = N) (hread : src.view.read (Elt F) fs = dst.view.read (Elt F) G)
    (hpay : iprop((dst.view.loc (c : Thread nD τ) ↦[dst.view.set]{fullShare} G) ∗ (src.view.loc (c : Thread nD τ) ↦[src.view.set]{fullShare} fs))
      ⊢ pay m c (.inr i) false) :
    iprop(recs m K ∗ (src.view.loc (c : Thread nD τ) ↦[src.view.set]{fullShare} fs) ∗ (dst.view.loc (c : Thread nD τ) ↦[dst.view.set]{fullShare} fd)
        ∗ tok c (.inr i) false)
      ⊢ run c (Prog.lift (.enqueueDma src (.here dst) (.dma q) hsrc hdst hsem)) (ticket c (.inr i)) := by
  have hcell : cell c (.inr i) = ((c : Thread nD τ), .dma q) := congrArg (Prod.mk _) hq
  have hd := Rd_duties m c (.inr i)
  have ha := Rd_amount m c (.inr i) false
  have hp := Rd_payload m c (.inr i) false
  iintro ⟨#Hr, Hs, Hd, Ht⟩
  ihave #HI := (recs_inv m K c (.inr i)) $$ Hr
  ihave #HR := (recs_reached m K c (.inr i)) $$ Hr
  unfold tok ticket run Prog.lift
  rw [hcell] at hd ha hp ⊢
  iapply (Rounds.wp_copy_pointsTo 𝒱₀ ER (Rd m) (c : Thread nD τ) none (r := 0) (d := false) (fd := fd) (κ := K (c, .inr i))
    (by rw [hd]; exact Finset.mem_singleton_self _) () N (show dst.view.amount (.dma q) = N from hN) ha (by rw [landed (c' := (c : Thread nD τ)) dst fd G _ hread, hp]; exact hpay)) $$ [Hs Hd Ht]
  · isplitr; · iexact HI
    isplitl [Hs]; · iexact Hs
    isplitl [Hd]; · iexact Hd
    isplitl [Ht]; · iexact Ht
    iexact HR
  iintro Hc
  rw [wp_ret]
  imodintro
  iexact Hc

/-- Starting a remote copy to the device `c'` pays what is owed for its arrival there; the source comes back here when
    it has left. -/
theorem run_remote (c c' n : Dev nD) (hn : n = c') (i j : Spot) {src : Memref sig (c : Thread nD τ).2.kind sp s e}
    {dst : Memref sig (Dev.tc n : Thread nD τ).2.kind sp' s e} {q q' : DmaSem sig}
    (hq : semOf (.inr i) = .dma q) (hq' : semOf (.inr j) = .dma q')
    {hsc : dst.view.ref.isScScratch = false} {hsrc : src.view.WordExact} {hdst : dst.view.WordExact}
    {hsem : DmaTarget.Typed sp (.dma q') (.remote (Dev.tc n : Thread nD τ) dst (.dma q) hsc)}
    {fs : Buf (Elt F) (src.view.loc (c : Thread nD τ))} {fd : Buf (Elt F) (dst.view.loc (Dev.tc n : Thread nD τ))}
    (G : Buf (Elt F) (dst.view.loc (Dev.tc n : Thread nD τ)))
    (hN : dst.view.dmaCredit = N) (hread : src.view.read (Elt F) fs = dst.view.read (Elt F) G)
    {O₀ : CellTallies nD τ sig Unit} (O : CellTallies nD τ sig Unit) (hO : O₀ = O + tallyAt (cell c' (.inr j)) () N)
    (hpay : (src.view.loc (c : Thread nD τ) ↦[src.view.set]{fullShare} fs) ⊢ pay m c (.inr i) false)
    (hpay' : (dst.view.loc (Dev.tc n : Thread nD τ) ↦[dst.view.set]{fullShare} G) ⊢ pay m c' (.inr j) false) :
    iprop(recs m K ∗ (src.view.loc (c : Thread nD τ) ↦[src.view.set]{fullShare} fs)
        ∗ (dst.view.loc (Dev.tc n : Thread nD τ) ↦[dst.view.set]{fullShare} fd)
        ∗ tok c (.inr i) false ∗ tok c' (.inr j) false ∗ debt c O₀)
      ⊢ run c (Prog.lift (.enqueueDma src (.remote (Dev.tc n : Thread nD τ) dst (.dma q) hsc) (.dma q') hsrc hdst hsem))
          iprop(ticket c (.inr i) ∗ debt c O) := by
  subst hn
  have hcell : cell c (.inr i) = ((c : Thread nD τ), .dma q) := congrArg (Prod.mk _) hq
  have hcell' : cell n (.inr j) = ((n : Thread nD τ), .dma q') := congrArg (Prod.mk _) hq'
  have hd := Rd_duties m c (.inr i)
  have ha := Rd_amount m c (.inr i) false
  have hp := Rd_payload m c (.inr i) false
  have hd' := Rd_duties m n (.inr j)
  have ha' := Rd_amount m n (.inr j) false
  have hp' := Rd_payload m n (.inr j) false
  iintro ⟨#Hr, Hs, Hd, Ht, Ht', HO⟩
  ihave #HI := (recs_inv m K c (.inr i)) $$ Hr
  ihave #HR := (recs_reached m K c (.inr i)) $$ Hr
  ihave #HI' := (recs_inv m K n (.inr j)) $$ Hr
  ihave #HR' := (recs_reached m K n (.inr j)) $$ Hr
  unfold debt
  icases HO with ⟨%W, HO⟩
  unfold tok ticket run Prog.lift
  rw [hcell] at hd ha hp ⊢
  rw [hcell'] at hd' ha' hp' hO ⊢
  iapply (Rounds.wp_send_pointsTo 𝒱₀ ER (Rd m) (c : Thread nD τ) none (r₁ := 0) (r₂ := 0) (d₁ := false) (d₂ := false) (fd := fd)
    (κ₁ := K (c, .inr i)) (κ₂ := K (n, .inr j))
    (by rw [hd]; exact Finset.mem_singleton_self _) (by rw [hd']; exact Finset.mem_singleton_self _) () () N (show dst.view.amount (.dma q') = N from hN) ha ha' O hO (W := W)
    (by rw [hp]; exact hpay) (by rw [landed (c' := (Dev.tc n : Thread nD τ)) dst fd G _ hread, hp']; exact hpay')) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact HR
    isplitl [Ht']; · iexact Ht'
    iexact HR'
  iintro ⟨Hc, HO⟩
  rw [wp_ret]
  imodintro
  isplitl [Hc]; · iexact Hc
  iexists W; iexact HO

/-- Waiting for a copy, when everything owed is served later, hands over what its semaphore holds. -/
theorem run_await (c : Dev nD) (i : Spot) {src : Memref sig (c : Thread nD τ).2.kind sp s e} {dst : Memref sig (c : Thread nD τ).2.kind sp' s e}
    {q : DmaSem sig} (hq : semOf (.inr i) = .dma q) {hsrc : src.view.WordExact} {hdst : dst.view.WordExact}
    (hN : dst.view.dmaCredit = N) (O : CellTallies nD τ sig Unit)
    (hO : ∀ g u, 0 < O g u → ∃ c' i', g = cell c' i' ∧ rank (.inr i) < rank i') :
    iprop(recs m K ∗ ticket c (.inr i) ∗ fresh c (.inr i) ∗ debt c O)
      ⊢ run c (Prog.lift (.waitDma2 q src dst hsrc hdst)) iprop(spent c (.inr i) ∗ pay m c (.inr i) false ∗ debt c O) := by
  have hcell : cell c (.inr i) = ((c : Thread nD τ), .dma q) := congrArg (Prod.mk _) hq
  have he := Rd_expect m c i
  have hrest := Rd_rest m c i
  have hmay := may_wait (F := F) c (.inr i) O hO
  iintro ⟨#Hr, Hc, Ha, HO⟩
  ihave #HI := (recs_inv m K c (.inr i)) $$ Hr
  ihave #HL := (recs_lev m K) $$ Hr
  unfold debt
  icases HO with ⟨%W, HO⟩
  unfold ticket fresh spent run Prog.lift
  rw [hcell] at he hrest ⊢
  rw [hq] at hmay
  iapply (Rounds.wp_wait_rest_token 𝒱₀ ER (Rd m) (c : Thread nD τ) none (κ := K (c, .inr i))
    (wpE_waitDma2_eq 𝒱₀ (c : Thread nD τ) none Set.univ) (Set.mem_univ _) () (O := O) (W := W) (R := 0) (m := 0) (T := ∅)
    (by rw [Nat.zero_add, he, hN])) $$ [Hc HO Ha]
  · isplitr; · iexact HI
    isplitl [Hc]; · rw [hN]; iexact Hc
    isplitl [HO]; · iexact HO
    isplitr; · iapply hmay; iexact HL
    iexact Ha
  iintro ⟨HO, Ha, -, Hp⟩
  rw [wp_ret]
  imodintro
  isplitl [Ha]; · iexact Ha
  isplitl [Hp]; · iapply (Entails.of_eq hrest); iexact Hp
  iexists _; iexact HO

end Copies

/-! ## Sequences and loops -/

/-- A program continued: what it leaves is handed to the continuation. -/
theorem run_wand (c : Dev nD) (p : Code F) (B C : sProp 𝕄) : iprop(run c p B ∗ (B -∗ C)) ⊢ run c p C := by
  unfold run
  iintro ⟨Hw, H⟩
  iapply (wp_wand _ _ _) $$ [Hw]; · iexact Hw
  iintro %_ HB
  iapply H; iexact HB

/-- One program after another. -/
theorem run_seq (c : Dev nD) (p q : Code F) (B C : sProp 𝕄) (hq : B ⊢ run c q C) :
    run c p B ⊢ run c (p >>= fun _ => q) C := by
  unfold run at *
  rw [wp_bind]
  exact wp_mono _ _ _ fun _ => hq

/-- Nothing left to do. -/
theorem run_done (c : Dev nD) (A : sProp 𝕄) : A ⊢ run c (pure ⟨⟩ : Code F) A := by
  unfold run
  rw [Prog.pure_eq_ret, wp_ret]
  exact fupd_intro

/-- A family over `n + 1` is its first member and the rest. -/
theorem bigSep_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]; rfl

/-- A loop whose `k`-th round turns `A k` into `B k`, with something known throughout and something carried along. -/
theorem run_loop (c : Dev nD) (R : sProp 𝕄) [BI.Persistent R] : ∀ (n : ℕ) (f : Fin n → Code F) (A B : Fin n → sProp 𝕄) (S : ℕ → sProp 𝕄),
    (∀ k : Fin n, iprop(R ∗ A k ∗ S k.val) ⊢ run c (f k) iprop(B k ∗ S (k.val + 1))) →
    iprop(R ∗ bigSep Finset.univ A ∗ S 0) ⊢ run c (loop n f) iprop(bigSep Finset.univ B ∗ S n)
  | 0, f, A, B, S, h => by
    refine BIBase.Entails.trans ?_ (run_done c _)
    rw [Finset.univ_eq_empty, bigSep_empty]
    iintro ⟨-, -, H⟩
    isplitr; · iempintro
    iexact H
  | n + 1, f, A, B, S, h => by
    have h0 : iprop(R ∗ A 0 ∗ S 0) ⊢ run c (f 0) iprop(B 0 ∗ S 1) := h 0
    have ih := run_loop c R n (fun i => f i.succ) (fun i => A i.succ) (fun i => B i.succ) (fun k => S (k + 1)) (fun k => h k.succ)
    have hq : iprop(B 0 ∗ S 1 ∗ R ∗ bigSep Finset.univ fun i : Fin n => A i.succ) ⊢ run c (loop n fun i => f i.succ)
        iprop((B 0 ∗ bigSep Finset.univ fun i : Fin n => B i.succ) ∗ S (n + 1)) := by
      iintro ⟨HB, HS, HR, HA⟩
      iapply (run_wand c _ _ _)
      isplitr [HB]
      · iapply ih
        isplitl [HR]; · iexact HR
        isplitl [HA]; · iexact HA
        iexact HS
      iintro ⟨HBs, HS⟩
      isplitr [HS]
      · isplitl [HB]; · iexact HB
        iexact HBs
      iexact HS
    rw [bigSep_succ A, bigSep_succ B]
    unfold loop
    refine BIBase.Entails.trans ?_ (run_seq c (f 0) _ _ _ hq)
    iintro ⟨#HR, ⟨HA, HAs⟩, HS⟩
    iapply (run_wand c _ _ _)
    isplitr [HAs]
    · iapply h0
      isplitr; · iexact HR
      isplitl [HA]; · iexact HA
      iexact HS
    iintro ⟨HB, HS⟩
    isplitl [HB]; · iexact HB
    isplitl [HS]; · iexact HS
    isplitr; · iexact HR
    iexact HAs

end Cert.KernelProof

end
-- ==== Proof.Body.lean ====
/-
# The rounds of the body

Each loop of the body taken as a whole: what its rounds need, all chunks together, and what they leave. The loops are
those of the script; each follows from the lemma on loops and from one round for any chunk.
-/
module

public import proofs.«01_k».proof.Proof.Steps

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Use → ℕ)

/-! ## The chunks as the views of the copies -/

section Views
variable (c : Dev nD)
omit [FloatOps F] in
theorem view_xOwn (k : Fin 16) (f : S8192x2048.Idx → Elt F .f32) :
    (xPts c k.val (mx c) f : sProp 𝕄) = ((xOwn c k).view.loc (c : Thread nD τ) ↦[(xOwn c k).view.set]{fullShare} f) := by
  unfold xPts; rw [set_xOwn]
omit [FloatOps F] in
theorem view_xSend (k : Fin 8) (f : S8192x2048.Idx → Elt F .f32) :
    (xPts c (8 * my c + k.val) (1 - mx c) f : sProp 𝕄) = ((xSend c k).view.loc (c : Thread nD τ) ↦[(xSend c k).view.set]{fullShare} f) := by
  unfold xPts; rw [set_xSend]
omit [FloatOps F] in
theorem view_vOwn (k : Fin 16) (f : S16x512x1024.Idx → Elt F .f32) :
    (vPts c k f : sProp 𝕄) = ((vOwn k).view.loc (c : Thread nD τ) ↦[(vOwn k).view.set]{fullShare} f) := by
  unfold vPts; rw [set_vOwn]
omit [FloatOps F] in
theorem view_vSend (k : Fin 8) (f : S8x512x1024.Idx → Elt F .f32) :
    (sPts c k f : sProp 𝕄) = ((vSend k).view.loc (c : Thread nD τ) ↦[(vSend k).view.set]{fullShare} f) := by
  unfold sPts; rw [set_vSend]
omit [FloatOps F] in
theorem view_oOwn (k : Fin 16) (f : S16384x1024.Idx → Elt F .f32) :
    (oPts c (tOwn c k) f : sProp 𝕄) = ((oOwn c k).view.loc (c : Thread nD τ) ↦[(oOwn c k).view.set]{fullShare} f) := by
  unfold oPts; rw [set_oOwn]
omit [FloatOps F] in
theorem view_oPass (k : Fin 8) (f : S16384x1024.Idx → Elt F .f32) :
    (oPts c (tNear c k) f : sProp 𝕄) = ((oPass c k).view.loc (c : Thread nD τ) ↦[(oPass c k).view.set]{fullShare} f) := by
  unfold oPts; rw [set_oPass]
omit [FloatOps F] in
/-- Where a chunk sent across lands is where the device across awaits it. -/
theorem view_oSend (n : Dev nD) (hn : n = across c) (k : Fin 8) (f : S16384x1024.Idx → Elt F .f32) :
    (oPts (across c) (tNear (across c) k) f : sProp 𝕄)
      = ((oSend c k).view.loc (Dev.tc n : Thread nD τ) ↦[(oSend c k).view.set]{fullShare} f) := by
  subst hn; unfold oPts; rw [set_oSend]
omit [FloatOps F] in
/-- Where a chunk passed on lands is where the device beside awaits it. -/
theorem view_oFar (n : Dev nD) (hn : n = beside c) (k : Fin 8) (f : S16384x1024.Idx → Elt F .f32) :
    (oPts (beside c) (tFar (beside c) k) f : sProp 𝕄)
      = ((oPass c k).view.loc (Dev.tc n : Thread nD τ) ↦[(oPass c k).view.set]{fullShare} f) := by
  subst hn; unfold oPts; rw [set_oPass, tFar_beside]
end Views

/-- A step and then the rest: what the step leaves lets the rest run. -/
theorem run_bind (c : Dev nD) (p q : Code F) (B C : sProp 𝕄) :
    iprop(run c p B ∗ (B -∗ run c q C)) ⊢ run c (p >>= fun _ => q) C := by
  unfold run
  rw [wp_bind]
  exact run_wand c p B _

/-- Nothing is owed to anyone by one who owes nothing. -/
theorem owed_none {P : Prop} {g : GSem nD τ sig} {u : Unit} (h : 0 < (0 : CellTallies nD τ sig Unit) g u) : P :=
  absurd h (Nat.lt_irrefl 0)

/-! ## Fetching -/

/-- All own chunks are being fetched. -/
theorem loop_fetchOwn (c : Dev nD) (f : S16x512x1024.Idx → Elt F .f32) :
    iprop(recs m K ∗ ((bigSep Finset.univ fun k : Fin 16 => xPts c k.val (mx c) (xF m c)) ∗ (bigSep Finset.univ fun k => vPts c k f)
        ∗ (bigSep Finset.univ fun k => tok c (kIn k) false)) ∗ emp)
      ⊢ run c (loop 16 (fetchOwn c)) iprop((bigSep Finset.univ fun k => ticket c (kIn k)) ∗ emp) := by
  rw [← bigSep_sep', ← bigSep_sep']
  refine run_loop c (recs m K) 16 (fetchOwn c) _ (fun k => ticket c (kIn k)) (fun _ => iprop(emp)) fun k => ?_
  iintro ⟨#Hr, ⟨Hx, Hv, Ht⟩, -⟩
  iapply (run_wand c _ (ticket c (kIn k)) _)
  isplitl [Hx Hv Ht]
  · unfold fetchOwn
    iapply (run_local m K c (.inl k) (semOf_in k) (fs := xF m c) (fd := f) (vF m c) (credit_vOwn k) (carry_fetchOwn m c k)
      (by rw [← view_xOwn, ← view_vOwn]; exact Entails.refl _))
    isplitr; · iexact Hr
    isplitl [Hx]; · rw [← view_xOwn]; iexact Hx
    isplitl [Hv]; · rw [← view_vOwn]; iexact Hv
    iexact Ht
  iintro H
  isplitl [H]; · iexact H
  iempintro

/-- All chunks to send are being fetched. -/
theorem loop_fetchSend (c : Dev nD) (f : S8x512x1024.Idx → Elt F .f32) :
    iprop(recs m K ∗ ((bigSep Finset.univ fun k : Fin 8 => xPts c (8 * my c + k.val) (1 - mx c) (xF m c))
        ∗ (bigSep Finset.univ fun k => sPts c k f) ∗ (bigSep Finset.univ fun k => tok c (kLoad k) false)) ∗ emp)
      ⊢ run c (loop 8 (fetchSend c)) iprop((bigSep Finset.univ fun k => ticket c (kLoad k)) ∗ emp) := by
  simp only [← bigSep_sep']
  refine run_loop c (recs m K) 8 (fetchSend c) _ (fun k => ticket c (kLoad k)) (fun _ => iprop(emp)) fun k => ?_
  iintro ⟨#Hr, ⟨Hx, Hv, Ht⟩, -⟩
  iapply (run_wand c _ (ticket c (kLoad k)) _)
  isplitl [Hx Hv Ht]
  · unfold fetchSend
    iapply (run_local m K c (.inr (.inr (.inl k))) (semOf_load k) (fs := xF m c) (fd := f) (sF m c) (credit_vSend k) (carry_fetchSend m c k)
      (by rw [← view_xSend, ← view_vSend]; exact Entails.refl _))
    isplitr; · iexact Hr
    isplitl [Hx]; · rw [← view_xSend]; iexact Hx
    isplitl [Hv]; · rw [← view_vSend]; iexact Hv
    iexact Ht
  iintro H
  isplitl [H]; · iexact H
  iempintro

/-! ## Sending across -/

/-- All chunks to send are on their way across, once they are fetched and the device across has let its rows be
    written. -/
theorem loop_send (c : Dev nD) :
    iprop(recs m K ∗ ((bigSep Finset.univ fun k => ticket c (kLoad k)) ∗ (bigSep Finset.univ fun k => fresh c (kLoad k))
        ∗ (bigSep Finset.univ fun k => tok c (kSent k) false) ∗ (bigSep Finset.univ fun k => tok (across c) (kRecv k) false)
        ∗ (bigSep Finset.univ fun k : Fin 8 => oPts (across c) (tNear (across c) k) (oInit m (across c)))) ∗ debt c (owePass c 0 + oweSend c 0))
      ⊢ run c (loop 8 (sendStep c)) iprop(((bigSep Finset.univ fun k => spent c (kLoad k))
        ∗ (bigSep Finset.univ fun k : Fin 8 => xPts c (8 * my c + k.val) (1 - mx c) (xF m c))
        ∗ (bigSep Finset.univ fun k => ticket c (kSent k))) ∗ debt c (owePass c 0)) := by
  have e : (debt c (owePass c 0) : sProp 𝕄) = debt c (owePass c 0 + oweSend c 8) :=
    congrArg (debt c) ((congrArg (owePass c 0 + ·) (oweFrom_end _)).trans (add_zero _)).symm
  rw [e]
  simp only [← bigSep_sep']
  refine run_loop c (recs m K) 8 (sendStep c) _ _ (fun j => debt c (owePass c 0 + oweSend c j)) fun k => ?_
  iintro ⟨#Hr, ⟨Hc, Ha, Ht, Ht', Ho⟩, HO⟩
  unfold sendStep
  iapply (run_bind c _ _ iprop(spent c (kLoad k) ∗ pay m c (kLoad k) false ∗ debt c (owePass c 0 + oweSend c k.val)) _)
  isplitl [Hc Ha HO]
  · unfold awaitSend
    iapply (run_await m K c (.inr (.inr (.inl k))) (semOf_load k) (credit_vSend k) _
      (fun g u h => by obtain ⟨c', i', e, h⟩ := owed_copies h; exact ⟨c', i', e, (Nat.zero_lt_one).trans h⟩))
    isplitr; · iexact Hr
    isplitl [Hc]; · iexact Hc
    isplitl [Ha]; · iexact Ha
    iexact HO
  rw [show pay m c (kLoad k) false = iprop(sPts c k (sF m c) ∗ xPts c (8 * my c + k.val) (1 - mx c) (xF m c)) from rfl]
  iintro ⟨Ha, ⟨Hs, Hx⟩, HO⟩
  iapply (run_wand c _ iprop(ticket c (kSent k) ∗ debt c (owePass c 0 + oweSend c (k.val + 1))) _)
  isplitl [Hs Ho Ht Ht' HO]
  · unfold send
    iapply (run_remote m K c (across c) (sendTo c k) (sendTo_eq c k) (.inr (.inr (.inr (.inl k)))) (.inr (.inr (.inr (.inr (.inl k)))))
      (semOf_sent k) (semOf_recv k) (fs := sF m c) (fd := oInit m (across c)) (oF m (across c)) (credit_oSend c k) (carry_send m c k)
      (owePass c 0 + oweSend c (k.val + 1)) (O₀ := owePass c 0 + oweSend c k.val)
      ((congrArg (owePass c 0 + ·) (oweFrom_step (fun n => cell (across c) (kRecv n)) k)).trans (add_assoc _ _ _).symm)
      (by rw [← view_vSend]; exact Entails.refl _) (by rw [← view_oSend c _ (sendTo_eq c k)]; exact Entails.refl _))
    isplitr; · iexact Hr
    isplitl [Hs]; · rw [← view_vSend]; iexact Hs
    isplitl [Ho]; · rw [← view_oSend c _ (sendTo_eq c k)]; iexact Ho
    isplitl [Ht]; · iexact Ht
    isplitl [Ht']; · iexact Ht'
    iexact HO
  iintro ⟨Hc, HO⟩
  isplitr [HO]
  · isplitl [Ha]; · iexact Ha
    isplitl [Hx]; · iexact Hx
    iexact Hc
  iexact HO

/-! ## Passing on, and storing the own chunks -/

/-- What turning an own chunk round needs: that it is being fetched, and its rows of the result. -/
def ownPre (c : Dev nD) (k : Fin 16) : sProp 𝕄 :=
  iprop(ticket c (kIn k) ∗ fresh c (kIn k) ∗ tok c (kOut k) false ∗ oPts c (tOwn c k) (oInit m c))
/-- What it leaves: the block of `x` read, and that the chunk is being stored. -/
def ownPost (c : Dev nD) (k : Fin 16) : sProp 𝕄 :=
  iprop(spent c (kIn k) ∗ xPts c k.val (mx c) (xF m c) ∗ ticket c (kOut k))

omit [FloatOps F] in
/-- What turning all own chunks round needs, kind by kind. -/
theorem ownPre_all (c : Dev nD) : (bigSep Finset.univ fun k => ownPre m c k)
    = iprop((bigSep Finset.univ fun k => ticket c (kIn k)) ∗ (bigSep Finset.univ fun k => fresh c (kIn k))
      ∗ (bigSep Finset.univ fun k => tok c (kOut k) false) ∗ bigSep Finset.univ fun k => oPts c (tOwn c k) (oInit m c)) := by
  unfold ownPre; rw [bigSep_sep', bigSep_sep', bigSep_sep']
omit [FloatOps F] in
/-- What it leaves, kind by kind. -/
theorem ownPost_all (c : Dev nD) : (bigSep Finset.univ fun k => ownPost m c k)
    = iprop((bigSep Finset.univ fun k => spent c (kIn k)) ∗ (bigSep Finset.univ fun k : Fin 16 => xPts c k.val (mx c) (xF m c))
      ∗ bigSep Finset.univ fun k => ticket c (kOut k)) := by
  unfold ownPost; rw [bigSep_sep', bigSep_sep']

/-- One own chunk is fetched and is being stored. -/
theorem step_own (c : Dev nD) (k : Fin 16) (j : ℕ) :
    iprop(recs m K ∗ ownPre m c k ∗ debt c (owePass c j)) ⊢ run c (ownStep c k) iprop(ownPost m c k ∗ debt c (owePass c j)) := by
  unfold ownPre ownPost
  iintro ⟨#Hr, ⟨Hc, Ha, Ht, Ho⟩, HO⟩
  unfold ownStep
  iapply (run_bind c _ _ iprop(spent c (kIn k) ∗ pay m c (kIn k) false ∗ debt c (owePass c j)) _)
  isplitl [Hc Ha HO]
  · unfold awaitOwn
    iapply (run_await m K c (.inl k) (semOf_in k) (credit_vOwn k) _
      (fun g u h => by obtain ⟨c', i', e, h⟩ := owed_pass h; exact ⟨c', i', e, (Nat.zero_lt_two).trans h⟩))
    isplitr; · iexact Hr
    isplitl [Hc]; · iexact Hc
    isplitl [Ha]; · iexact Ha
    iexact HO
  rw [show pay m c (kIn k) false = iprop(vPts c k (vF m c) ∗ xPts c k.val (mx c) (xF m c)) from rfl]
  iintro ⟨Ha, ⟨Hv, Hx⟩, HO⟩
  iapply (run_wand c _ (ticket c (kOut k)) _)
  isplitl [Hv Ho Ht]
  · unfold storeOwn
    iapply (run_local m K c (.inr (.inl k)) (semOf_out k) (fs := vF m c) (fd := oInit m c) (oF m c) (credit_oOwn c k) (carry_storeOwn m c k)
      (by rw [← view_oOwn, ← view_vOwn]; exact Entails.refl _))
    isplitr; · iexact Hr
    isplitl [Hv]; · rw [← view_vOwn]; iexact Hv
    isplitl [Ho]; · rw [← view_oOwn]; iexact Ho
    iexact Ht
  iintro Hc
  isplitr [HO]
  · isplitl [Ha]; · iexact Ha
    isplitl [Hx]; · iexact Hx
    iexact Hc
  iexact HO

/-- A family over sixteen is the family over eight of the pairs. -/
theorem bigSep_pairs (Φ : Fin 16 → sProp 𝕄) :
    bigSep Finset.univ Φ = iprop((bigSep Finset.univ fun k : Fin 8 => Φ (even k)) ∗ bigSep Finset.univ fun k : Fin 8 => Φ (odd k)) := by
  let e : Fin 8 ⊕ Fin 8 ≃ Fin 16 :=
    { toFun := Sum.elim even odd
      invFun := fun k => if k.val % 2 = 0 then .inl ⟨k.val / 2, by omega⟩ else .inr ⟨k.val / 2, by omega⟩
      left_inv := by
        rintro (k | k)
        · show (if (2 * k.val) % 2 = 0 then _ else _) = _
          rw [if_pos (by omega)]; exact congrArg Sum.inl (Fin.ext (by show 2 * k.val / 2 = _; omega))
        · show (if (2 * k.val + 1) % 2 = 0 then _ else _) = _
          rw [if_neg (by omega)]; exact congrArg Sum.inr (Fin.ext (by show (2 * k.val + 1) / 2 = _; omega))
      right_inv := fun k => by
        show Sum.elim even odd (if k.val % 2 = 0 then _ else _) = k
        split
        · exact Fin.ext (by show 2 * (k.val / 2) = _; omega)
        · exact Fin.ext (by show 2 * (k.val / 2) + 1 = _; omega) }
  rw [bigSep_univ_equiv e Φ, bigSep_univ_sum]
  rfl

/-- All chunks from across are passed on to the device beside, which has let its rows be written, and all own chunks
    are being stored. -/
theorem loop_pass (c : Dev nD) :
    iprop(recs m K ∗ ((bigSep Finset.univ fun k => ticket c (kRecv k)) ∗ (bigSep Finset.univ fun k => fresh c (kRecv k))
        ∗ (bigSep Finset.univ fun k => tok c (kPassed k) false) ∗ (bigSep Finset.univ fun k => tok (beside c) (kOther k) false)
        ∗ (bigSep Finset.univ fun k : Fin 8 => oPts (beside c) (tFar (beside c) k) (oInit m (beside c)))
        ∗ bigSep Finset.univ fun k => ownPre m c k) ∗ debt c (owePass c 0))
      ⊢ run c (loop 8 (passStep c)) iprop(((bigSep Finset.univ fun k => spent c (kRecv k))
        ∗ (bigSep Finset.univ fun k => ticket c (kPassed k)) ∗ bigSep Finset.univ fun k => ownPost m c k) ∗ debt c 0) := by
  have e : (debt c 0 : sProp 𝕄) = debt c (owePass c 8) := congrArg (debt c) (oweFrom_end _).symm
  rw [e]
  rw [bigSep_pairs (ownPre m c), bigSep_pairs (ownPost m c)]
  simp only [← bigSep_sep']
  refine run_loop c (recs m K) 8 (passStep c) _ _ (fun j => debt c (owePass c j)) fun k => ?_
  iintro ⟨#Hr, ⟨Hc, Ha, Ht, Ht', Ho, He, Hd⟩, HO⟩
  unfold passStep
  iapply (run_bind c _ _ iprop(spent c (kRecv k) ∗ pay m c (kRecv k) false ∗ debt c (owePass c k.val)) _)
  isplitl [Hc Ha HO]
  · unfold awaitRecv
    iapply (run_await m K c (.inr (.inr (.inr (.inr (.inl k))))) (semOf_recv k) (credit_oSend c k) _
      (fun g u h => by obtain ⟨c', i', e, h⟩ := owed_pass h; exact ⟨c', i', e, h⟩))
    isplitr; · iexact Hr
    isplitl [Hc]; · iexact Hc
    isplitl [Ha]; · iexact Ha
    iexact HO
  rw [show pay m c (kRecv k) false = oPts c (tNear c k) (oF m c) from rfl]
  iintro ⟨Ha, Hs, HO⟩
  iapply (run_bind c _ _ iprop(ticket c (kPassed k) ∗ debt c (owePass c (k.val + 1))) _)
  isplitl [Hs Ho Ht Ht' HO]
  · unfold pass
    iapply (run_remote m K c (beside c) (passTo c k) (passTo_eq c k) (.inr (.inr (.inr (.inr (.inr (.inl k)))))) (.inr (.inr (.inr (.inr (.inr (.inr k))))))
      (semOf_passed k) (semOf_other k) (fs := oF m c) (fd := oInit m (beside c)) (oF m (beside c)) (credit_oPass c k) (carry_pass m c k)
      (owePass c (k.val + 1)) (O₀ := owePass c k.val) (oweFrom_step (fun n => cell (beside c) (kOther n)) k)
      (by rw [← view_oPass]; exact Entails.refl _) (by rw [← view_oFar c _ (passTo_eq c k)]; exact Entails.refl _))
    isplitr; · iexact Hr
    isplitl [Hs]; · rw [← view_oPass]; iexact Hs
    isplitl [Ho]; · rw [← view_oFar c _ (passTo_eq c k)]; iexact Ho
    isplitl [Ht]; · iexact Ht
    isplitl [Ht']; · iexact Ht'
    iexact HO
  iintro ⟨Hc, HO⟩
  iapply (run_bind c _ _ iprop(ownPost m c (even k) ∗ debt c (owePass c (k.val + 1))) _)
  isplitl [He HO]
  · iapply (step_own m K c (even k) (k.val + 1))
    isplitr; · iexact Hr
    isplitl [He]; · iexact He
    iexact HO
  iintro ⟨He, HO⟩
  iapply (run_wand c _ iprop(ownPost m c (odd k) ∗ debt c (owePass c (k.val + 1))) _)
  isplitl [Hd HO]
  · iapply (step_own m K c (odd k) (k.val + 1))
    isplitr; · iexact Hr
    isplitl [Hd]; · iexact Hd
    iexact HO
  iintro ⟨Hd, HO⟩
  isplitr [HO]
  · isplitl [Ha]; · iexact Ha
    isplitl [Hc]; · iexact Hc
    isplitl [He]; · iexact He
    iexact Hd
  iexact HO

/-! ## The last waits -/

/-- All remote copies are over: what was sent is free again, and the rows from across and from beside are there. -/
theorem loop_settle (c : Dev nD) :
    iprop(recs m K ∗ ((bigSep Finset.univ fun k => ticket c (kSent k)) ∗ (bigSep Finset.univ fun k => fresh c (kSent k))
        ∗ (bigSep Finset.univ fun k => ticket c (kPassed k)) ∗ (bigSep Finset.univ fun k => fresh c (kPassed k))
        ∗ (bigSep Finset.univ fun k => ticket c (kOther k)) ∗ (bigSep Finset.univ fun k => fresh c (kOther k))) ∗ debt c 0)
      ⊢ run c (loop 8 (settleStep c)) iprop(((bigSep Finset.univ fun k => spent c (kSent k)) ∗ (bigSep Finset.univ fun k => sPts c k (sF m c))
        ∗ (bigSep Finset.univ fun k => spent c (kPassed k)) ∗ (bigSep Finset.univ fun k => oPts c (tNear c k) (oF m c))
        ∗ (bigSep Finset.univ fun k => spent c (kOther k)) ∗ (bigSep Finset.univ fun k => oPts c (tFar c k) (oF m c))) ∗ debt c 0) := by
  simp only [← bigSep_sep']
  refine run_loop c (recs m K) 8 (settleStep c) _ _ (fun _ => debt c 0) fun k => ?_
  iintro ⟨#Hr, ⟨Hc₁, Ha₁, Hc₂, Ha₂, Hc₃, Ha₃⟩, HO⟩
  unfold settleStep
  iapply (run_bind c _ _ iprop(spent c (kSent k) ∗ pay m c (kSent k) false ∗ debt c 0) _)
  isplitl [Hc₁ Ha₁ HO]
  · unfold awaitSent
    iapply (run_await m K c (.inr (.inr (.inr (.inl k)))) (semOf_sent k) (credit_vSend k) 0 (fun g u h => owed_none h))
    isplitr; · iexact Hr
    isplitl [Hc₁]; · iexact Hc₁
    isplitl [Ha₁]; · iexact Ha₁
    iexact HO
  iintro ⟨Ha₁, Hp₁, HO⟩
  iapply (run_bind c _ _ iprop(spent c (kPassed k) ∗ pay m c (kPassed k) false ∗ debt c 0) _)
  isplitl [Hc₂ Ha₂ HO]
  · unfold awaitPassed
    iapply (run_await m K c (.inr (.inr (.inr (.inr (.inr (.inl k)))))) (semOf_passed k) (credit_oPass c k) 0 (fun g u h => owed_none h))
    isplitr; · iexact Hr
    isplitl [Hc₂]; · iexact Hc₂
    isplitl [Ha₂]; · iexact Ha₂
    iexact HO
  iintro ⟨Ha₂, Hp₂, HO⟩
  iapply (run_wand c _ iprop(spent c (kOther k) ∗ pay m c (kOther k) false ∗ debt c 0) _)
  isplitl [Hc₃ Ha₃ HO]
  · unfold awaitOther
    iapply (run_await m K c (.inr (.inr (.inr (.inr (.inr (.inr k)))))) (semOf_other k) (credit_oPass c k) 0 (fun g u h => owed_none h))
    isplitr; · iexact Hr
    isplitl [Hc₃]; · iexact Hc₃
    isplitl [Ha₃]; · iexact Ha₃
    iexact HO
  iintro ⟨Ha₃, Hp₃, HO⟩
  ihave Hp₁ := (Entails.of_eq (show pay m c (kSent k) false = sPts c k (sF m c) from rfl)) $$ Hp₁
  ihave Hp₂ := (Entails.of_eq (show pay m c (kPassed k) false = oPts c (tNear c k) (oF m c) from rfl)) $$ Hp₂
  ihave Hp₃ := (Entails.of_eq (show pay m c (kOther k) false = oPts c (tFar c k) (oF m c) from rfl)) $$ Hp₃
  isplitr [HO]
  · isplitl [Ha₁]; · iexact Ha₁
    isplitl [Hp₁]; · iexact Hp₁
    isplitl [Ha₂]; · iexact Ha₂
    isplitl [Hp₂]; · iexact Hp₂
    isplitl [Ha₃]; · iexact Ha₃
    iexact Hp₃
  iexact HO

/-- All own chunks are stored. -/
theorem loop_stored (c : Dev nD) :
    iprop(recs m K ∗ ((bigSep Finset.univ fun k => ticket c (kOut k)) ∗ (bigSep Finset.univ fun k => fresh c (kOut k))) ∗ debt c 0)
      ⊢ run c (loop 16 (awaitStored c)) iprop(((bigSep Finset.univ fun k => spent c (kOut k))
        ∗ (bigSep Finset.univ fun k => oPts c (tOwn c k) (oF m c)) ∗ (bigSep Finset.univ fun k => vPts c k (vF m c))) ∗ debt c 0) := by
  simp only [← bigSep_sep']
  refine run_loop c (recs m K) 16 (awaitStored c) _ _ (fun _ => debt c 0) fun k => ?_
  iintro ⟨#Hr, ⟨Hc, Ha⟩, HO⟩
  iapply (run_wand c _ iprop(spent c (kOut k) ∗ pay m c (kOut k) false ∗ debt c 0) _)
  isplitl [Hc Ha HO]
  · unfold awaitStored
    iapply (run_await m K c (.inr (.inl k)) (semOf_out k) (credit_oOwn c k) 0 (fun g u h => owed_none h))
    isplitr; · iexact Hr
    isplitl [Hc]; · iexact Hc
    isplitl [Ha]; · iexact Ha
    iexact HO
  rw [show pay m c (kOut k) false = iprop(oPts c (tOwn c k) (oF m c) ∗ vPts c k (vF m c)) from rfl]
  iintro ⟨Ha, ⟨Ho, Hv⟩, HO⟩
  isplitr [HO]
  · isplitl [Ha]; · iexact Ha
    isplitl [Ho]; · iexact Ho
    iexact Hv
  iexact HO

/-! ## Meeting the neighbours -/

/-- At the barrier a device lets each neighbour write rows of its result, and may then write the neighbours'. -/
theorem run_meet (c : Dev nD) :
    iprop(recs m K ∗ tok (across c) kBar true ∗ tok (beside c) kBar false
        ∗ (bigSep Finset.univ fun k : Fin 8 => oPts c (tNear c k) (oInit m c)) ∗ (bigSep Finset.univ fun k : Fin 8 => oPts c (tFar c k) (oInit m c))
        ∗ cred (tallyAt (cell c kBar) () 2) ∗ fresh c kBar ∗ debt c (owe₀ c))
      ⊢ run c (meet c) iprop(spent c kBar
        ∗ (bigSep Finset.univ fun k : Fin 8 => oPts (across c) (tNear (across c) k) (oInit m (across c)))
        ∗ (bigSep Finset.univ fun k : Fin 8 => oPts (beside c) (tFar (beside c) k) (oInit m (beside c)))
        ∗ debt c (owePass c 0 + oweSend c 0)) := by
  have hp₁ : (Rd m).payload ((across c : Thread nD τ), .reg barS) 0 true = bigSep Finset.univ fun k : Fin 8 => oPts c (tNear c k) (oInit m c) := by
    refine (Rd_payload m (across c) kBar true).trans ?_
    show (bigSep Finset.univ fun k : Fin 8 => oPts (across (across c)) (tNear (across (across c)) k) (oInit m (across (across c)))) = _
    rw [across_across]
  have hp₂ : (Rd m).payload ((beside c : Thread nD τ), .reg barS) 0 false = bigSep Finset.univ fun k : Fin 8 => oPts c (tFar c k) (oInit m c) := by
    refine (Rd_payload m (beside c) kBar false).trans ?_
    show (bigSep Finset.univ fun k : Fin 8 => oPts (beside (beside c)) (tFar (beside (beside c)) k) (oInit m (beside (beside c)))) = _
    rw [beside_beside]
  have hd (c' : Dev nD) (d : Bool) : d ∈ (Rd m).duties ((c' : Thread nD τ), .reg barS) 0 :=
    (Rd_duties m c' kBar).symm ▸ Finset.mem_univ d
  have ha (c' : Dev nD) (d : Bool) : (Rd m).amount ((c' : Thread nD τ), .reg barS) 0 d = 1 := Rd_amount m c' kBar d
  have he : (Rd m).expect ((c : Thread nD τ), .reg barS) 0 = 2 := Rd_expect_bar m c
  have hrest : bigSep ((Rd (F := F) m).duties ((c : Thread nD τ), .reg barS) 0 \ ∅) (fun d => (Rd (F := F) m).payload ((c : Thread nD τ), .reg barS) 0 d)
      = iprop(pay m c kBar false ∗ pay m c kBar true) := Rd_rest_bar m c
  have hmay := may_wait (F := F) c kBar (owePass c 0 + oweSend c 0) (fun g u h => owed_copies h)
  rw [semOf_bar] at hmay
  iintro ⟨#Hr, Ht₁, Ht₂, Hn, Hf, Hc, Ha, HO⟩
  ihave #HI := (recs_inv m K c kBar) $$ Hr
  ihave #HI₁ := (recs_inv m K (across c) kBar) $$ Hr
  ihave #HR₁ := (recs_reached m K (across c) kBar) $$ Hr
  ihave #HI₂ := (recs_inv m K (beside c) kBar) $$ Hr
  ihave #HR₂ := (recs_reached m K (beside c) kBar) $$ Hr
  ihave #HL := (recs_lev m K) $$ Hr
  unfold debt
  icases HO with ⟨%W, HO⟩
  unfold meet run
  simp only [semSignalWord, semWaitWord, Prog.lift, Prog.bind_op, Prog.bind_ret, Prog.pure_eq_ret]
  iapply (Rounds.wp_signal 𝒱₀ ER (Rd m) (c : Thread nD τ) none (dst := (across c : Thread nD τ)) (κ := K (across c, kBar)) (d := true)
      (hd (across c) true) ((ha (across c) true).trans (by decide)) () (owe₁ c) rfl) $$ [HO Ht₁ Hn]
  · isplitr; · iexact HI₁
    isplitl [HO]; · iexact HO
    isplitl [Ht₁]; · iexact Ht₁
    isplitl [Hn]; · iapply (Entails.of_eq hp₁.symm); iexact Hn
    iexact HR₁
  iintro HO
  unfold owe₁
  iapply (Rounds.wp_signal 𝒱₀ ER (Rd m) (c : Thread nD τ) none (dst := (beside c : Thread nD τ)) (κ := K (beside c, kBar)) (d := false)
      (hd (beside c) false) ((ha (beside c) false).trans (by decide)) () (owePass c 0 + oweSend c 0) rfl) $$ [HO Ht₂ Hf]
  · isplitr; · iexact HI₂
    isplitl [HO]; · iexact HO
    isplitl [Ht₂]; · iexact Ht₂
    isplitl [Hf]; · iapply (Entails.of_eq hp₂.symm); iexact Hf
    iexact HR₂
  iintro HO
  iapply (Rounds.wp_wait_rest_token 𝒱₀ ER (Rd m) (c : Thread nD τ) none (κ := K (c, kBar))
      (wpE_semWait_eq 𝒱₀ (c : Thread nD τ) none Set.univ) (Set.mem_univ _) () (O := owePass c 0 + oweSend c 0) (W := W) (R := 0) (m := 0) (T := ∅)
      (by rw [he]; decide)) $$ [Hc HO Ha]
  · isplitr; · iexact HI
    isplitl [Hc]; · iexact Hc
    isplitl [HO]; · iexact HO
    isplitr; · iapply hmay; iexact HL
    iexact Ha
  iintro ⟨HO, Ha, -, Hp⟩
  ihave Hp' := (Entails.of_eq hrest) $$ Hp
  unfold pay
  icases Hp' with ⟨Hf, Hn⟩
  rw [wp_ret]
  imodintro
  isplitl [Ha]; · iexact Ha
  isplitl [Hn]; · iexact Hn
  isplitl [Hf]; · iexact Hf
  iexists _; iexact HO

end Cert.KernelProof

end
-- ==== Proof.Whole.lean ====
/-
# The whole body

The buffers in their chunks, and the body of the kernel from what the launch gives a device to what it leaves: every
semaphore served, `x` as it was, the result at its final contents.
-/
module

public import proofs.«01_k».proof.Proof.Body
public import Idealize.ShloMosaic.Lib.Ring

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks)

variable {F : FTy → Type} [FloatOps F]

local notation "𝕄" => MT nD τ sig Unit (Elt F) ℕ UU ℕ

/-! ## The buffers in chunks -/

/-- The runs of rows of the result: own, from across, from beside. -/
def tOf (c : Dev nD) : Fin 16 ⊕ (Fin 8 ⊕ Fin 8) → ℕ := Sum.elim (tOwn c) (Sum.elim (tNear c) (tFar c))
/-- The run of rows of `x` of a block: own, sent across, kept. -/
def rOf (c : Dev nD) : Fin 16 ⊕ (Fin 8 ⊕ Fin 8) → ℕ :=
  Sum.elim (fun k => k.val) (Sum.elim (fun k => 8 * my c + k.val) (fun k => 8 * (1 - my c) + k.val))
/-- The half of the columns of `x` of a block. -/
def hOf (c : Dev nD) : Fin 16 ⊕ (Fin 8 ⊕ Fin 8) → ℕ :=
  Sum.elim (fun _ => mx c) (Sum.elim (fun _ => 1 - mx c) (fun _ => 1 - mx c))

/-- Different runs of rows have different numbers. -/
theorem tOf_inj (c : Dev nD) : ∀ b b', tOf c b = tOf c b' → b = b' := by
  have hx := mx_lt c
  have hy := my_lt c
  rintro (k | k | k) (l | l | l) h <;> have hk := k.isLt <;> have hl := l.isLt <;>
    simp only [tOf, Sum.elim_inl, Sum.elim_inr, tOwn, tNear, tFar] at h <;>
    first | (exfalso; omega) | (obtain rfl : k = l := Fin.ext (by omega); rfl)
/-- Every one of the 32 runs of rows occurs. -/
theorem tOf_surj (c : Dev nD) (t : ℕ) (ht : t < 32) : ∃ b, tOf c b = t := by
  have hx := mx_lt c
  have hy := my_lt c
  by_cases h : t / 16 = mx c
  · exact ⟨.inl ⟨t % 16, Nat.mod_lt _ (by decide)⟩, by show 16 * mx c + t % 16 = t; omega⟩
  by_cases h' : t % 16 / 8 = my c
  · exact ⟨.inr (.inl ⟨t % 8, Nat.mod_lt _ (by decide)⟩), by show 16 * (1 - mx c) + 8 * my c + t % 8 = t; omega⟩
  · exact ⟨.inr (.inr ⟨t % 8, Nat.mod_lt _ (by decide)⟩), by show 16 * (1 - mx c) + 8 * (1 - my c) + t % 8 = t; omega⟩
/-- Different blocks of `x` lie apart. -/
theorem rhOf_inj (c : Dev nD) : ∀ b b', rOf c b = rOf c b' → hOf c b = hOf c b' → b = b' := by
  have hx := mx_lt c
  have hy := my_lt c
  rintro (k | k | k) (l | l | l) h h' <;> have hk := k.isLt <;> have hl := l.isLt <;>
    simp only [rOf, hOf, Sum.elim_inl, Sum.elim_inr] at h h' <;>
    first | (exfalso; omega) | (obtain rfl : k = l := Fin.ext (by omega); rfl)
/-- Every block of `x` occurs. -/
theorem rhOf_surj (c : Dev nD) (t h : ℕ) (ht : t < 16) (hh : h < 2) : ∃ b, rOf c b = t ∧ hOf c b = h := by
  have hx := mx_lt c
  have hy := my_lt c
  by_cases e : h = mx c
  · exact ⟨.inl ⟨t, ht⟩, rfl, e.symm⟩
  by_cases e' : t / 8 = my c
  · exact ⟨.inr (.inl ⟨t % 8, Nat.mod_lt _ (by decide)⟩), by show 8 * my c + t % 8 = t; omega, by show 1 - mx c = h; omega⟩
  · exact ⟨.inr (.inr ⟨t % 8, Nat.mod_lt _ (by decide)⟩), by show 8 * (1 - my c) + t % 8 = t; omega, by show 1 - mx c = h; omega⟩

/-- A device's result at given contents, in its chunks. -/
def oAll (c : Dev nD) (f : S16384x1024.Idx → Elt F .f32) : sProp 𝕄 :=
  iprop((bigSep Finset.univ fun k => oPts c (tOwn c k) f) ∗ (bigSep Finset.univ fun k => oPts c (tNear c k) f)
    ∗ bigSep Finset.univ fun k => oPts c (tFar c k) f)
/-- A device's `x` at given contents, in its blocks. -/
def xAll (c : Dev nD) (f : S8192x2048.Idx → Elt F .f32) : sProp 𝕄 :=
  iprop((bigSep Finset.univ fun k : Fin 16 => xPts c k.val (mx c) f) ∗ (bigSep Finset.univ fun k : Fin 8 => xPts c (8 * my c + k.val) (1 - mx c) f)
    ∗ bigSep Finset.univ fun k : Fin 8 => xPts c (8 * (1 - my c) + k.val) (1 - mx c) f)

omit [FloatOps F] in
/-- A device's result is its chunks. -/
theorem oAll_eq (c : Dev nD) (f : S16384x1024.Idx → Elt F .f32) :
    ((c : Thread nD τ).loc main_v1 ↦{fullShare} f : sProp 𝕄) = oAll c f := by
  rw [pointsTo_blocks (ℓ := (c : Thread nD τ).loc main_v1) (fun b => rows (tOf c b))
    (fun b b' hb => Finset.disjoint_left.mpr fun i hi hi' => hb (tOf_inj c b b' ((Finset.mem_filter.mp hi).2.symm.trans (Finset.mem_filter.mp hi').2)))
    (Finset.eq_univ_of_forall fun (i : S16384x1024.Idx) => by
      have h0 : (i 0).val < 16384 := (i 0).isLt
      obtain ⟨b, hb⟩ := tOf_surj c ((i 0).val / 512) (by omega)
      exact Finset.mem_biUnion.mpr ⟨b, Finset.mem_univ _, Finset.mem_filter.mpr ⟨Finset.mem_univ _, hb.symm⟩⟩) f,
    bigSep_univ_sum, bigSep_univ_sum]
  rfl
omit [FloatOps F] in
/-- A device's `x` is its blocks. -/
theorem xAll_eq (c : Dev nD) (f : S8192x2048.Idx → Elt F .f32) :
    ((c : Thread nD τ).loc main_arg0 ↦{fullShare} f : sProp 𝕄) = xAll c f := by
  rw [pointsTo_blocks (ℓ := (c : Thread nD τ).loc main_arg0) (fun b => block (rOf c b) (hOf c b))
    (fun b b' hb => Finset.disjoint_left.mpr fun i hi hi' => by
      obtain ⟨-, h1, h2⟩ := Finset.mem_filter.mp hi
      obtain ⟨-, h3, h4⟩ := Finset.mem_filter.mp hi'
      exact hb (rhOf_inj c b b' (h1.symm.trans h3) (h2.symm.trans h4)))
    (Finset.eq_univ_of_forall fun (i : S8192x2048.Idx) => by
      have h0 : (i 0).val < 8192 := (i 0).isLt
      have h1 : (i 1).val < 2048 := (i 1).isLt
      obtain ⟨b, hb, hb'⟩ := rhOf_surj c ((i 0).val / 512) ((i 1).val / 1024) (by omega) (by omega)
      exact Finset.mem_biUnion.mpr ⟨b, Finset.mem_univ _, Finset.mem_filter.mpr ⟨Finset.mem_univ _, hb.symm, hb'.symm⟩⟩) f,
    bigSep_univ_sum, bigSep_univ_sum]
  rfl
omit [FloatOps F] in
/-- The buffer of sixteen is its slots. -/
theorem vAll_eq (c : Dev nD) (f : S16x512x1024.Idx → Elt F .f32) :
    ((c : Thread nD τ).loc cc0_scratch0 ↦{fullShare} f : sProp 𝕄) = bigSep Finset.univ fun k => vPts c k f := by
  rw [pointsTo_blocks (ℓ := (c : Thread nD τ).loc cc0_scratch0) slot16
    (fun b b' hb => Finset.disjoint_left.mpr fun i hi hi' => hb (Fin.ext ((Finset.mem_filter.mp hi).2.symm.trans (Finset.mem_filter.mp hi').2)))
    (Finset.eq_univ_of_forall fun (i : S16x512x1024.Idx) =>
      Finset.mem_biUnion.mpr ⟨⟨(i 0).val, (i 0).isLt⟩, Finset.mem_univ _, Finset.mem_filter.mpr ⟨Finset.mem_univ _, rfl⟩⟩) f]
  rfl
omit [FloatOps F] in
/-- The buffer of eight is its slots. -/
theorem sAll_eq (c : Dev nD) (f : S8x512x1024.Idx → Elt F .f32) :
    ((c : Thread nD τ).loc cc0_scratch1 ↦{fullShare} f : sProp 𝕄) = bigSep Finset.univ fun k => sPts c k f := by
  rw [pointsTo_blocks (ℓ := (c : Thread nD τ).loc cc0_scratch1) slot8
    (fun b b' hb => Finset.disjoint_left.mpr fun i hi hi' => hb (Fin.ext ((Finset.mem_filter.mp hi).2.symm.trans (Finset.mem_filter.mp hi').2)))
    (Finset.eq_univ_of_forall fun (i : S8x512x1024.Idx) =>
      Finset.mem_biUnion.mpr ⟨⟨(i 0).val, (i 0).isLt⟩, Finset.mem_univ _, Finset.mem_filter.mpr ⟨Finset.mem_univ _, rfl⟩⟩) f]
  rfl

/-! ## The body -/

/-- A family over the semaphores of a device, purpose by purpose. -/
theorem bigSep_use (Φ : Use → sProp 𝕄) :
    bigSep Finset.univ Φ = iprop(Φ kBar ∗ (bigSep Finset.univ fun k => Φ (kIn k)) ∗ (bigSep Finset.univ fun k => Φ (kOut k))
      ∗ (bigSep Finset.univ fun k => Φ (kLoad k)) ∗ (bigSep Finset.univ fun k => Φ (kSent k)) ∗ (bigSep Finset.univ fun k => Φ (kRecv k))
      ∗ (bigSep Finset.univ fun k => Φ (kPassed k)) ∗ (bigSep Finset.univ fun k => Φ (kOther k))) := by
  rw [bigSep_univ_sum, bigSep_univ_sum, bigSep_univ_sum, bigSep_univ_sum, bigSep_univ_sum, bigSep_univ_sum, bigSep_univ_sum,
    bigSep_univ_of_subsingleton (i := ())]
  rfl

/-- The duties a device fulfils: the signals to its neighbours, and its own copies. -/
def payToks (c : Dev nD) : sProp 𝕄 :=
  iprop(tok (across c) kBar true ∗ tok (beside c) kBar false ∗ (bigSep Finset.univ fun k => tok c (kIn k) false)
    ∗ (bigSep Finset.univ fun k => tok c (kOut k) false) ∗ (bigSep Finset.univ fun k => tok c (kLoad k) false)
    ∗ (bigSep Finset.univ fun k => tok c (kSent k) false) ∗ (bigSep Finset.univ fun k => tok (across c) (kRecv k) false)
    ∗ (bigSep Finset.univ fun k => tok c (kPassed k) false) ∗ bigSep Finset.univ fun k => tok (beside c) (kOther k) false)
/-- The credit a device has for what its neighbours owe it. -/
def credits (c : Dev nD) : sProp 𝕄 :=
  iprop(cred (tallyAt (cell c kBar) () 2) ∗ (bigSep Finset.univ fun k => ticket c (kRecv k)) ∗ bigSep Finset.univ fun k => ticket c (kOther k))

variable (m : (ℓ : Loc nD τ sig) → Buf (Elt F) ℓ) (K : Dev nD × Use → ℕ)

/-- The body of the kernel on a device. -/
theorem run_script (c : Dev nD) (f : S16x512x1024.Idx → Elt F .f32) (g : S8x512x1024.Idx → Elt F .f32) :
    iprop(recs m K ∗ payToks c ∗ (bigSep Finset.univ fun i => fresh c i) ∗ credits c ∗ xAll c (xF m c) ∗ oAll c (oInit m c)
        ∗ (bigSep Finset.univ fun k => vPts c k f) ∗ (bigSep Finset.univ fun k => sPts c k g) ∗ debt c (owe₀ c))
      ⊢ run c (script c) iprop((bigSep Finset.univ fun i => spent c i) ∗ xAll c (xF m c) ∗ oAll c (oF m c)
        ∗ (bigSep Finset.univ fun k => vPts c k (vF m c)) ∗ (bigSep Finset.univ fun k => sPts c k (sF m c)) ∗ debt c 0) := by
  rw [bigSep_use (fun i => fresh c i), bigSep_use (fun i => spent c i)]
  unfold payToks credits oAll xAll script
  iintro ⟨#Hr, ⟨Tacr, Tbes, Tin, Tout, Tload, Tsent, Trecv, Tpassed, Tother⟩, ⟨Abar, Ain, Aout, Aload, Asent, Arecv, Apassed, Aother⟩,
    ⟨Cbar, Crecv, Cother⟩, ⟨Xown, Xsend, Xkeep⟩, ⟨Oown, Onear, Ofar⟩, Hv, Hs, HO⟩
  iapply (run_bind c _ _ _ _)
  isplitl [Tacr Tbes Onear Ofar Cbar Abar HO]
  · iapply (run_meet m K c)
    isplitr; · iexact Hr
    isplitl [Tacr]; · iexact Tacr
    isplitl [Tbes]; · iexact Tbes
    isplitl [Onear]; · iexact Onear
    isplitl [Ofar]; · iexact Ofar
    isplitl [Cbar]; · iexact Cbar
    isplitl [Abar]; · iexact Abar
    iexact HO
  iintro ⟨Abar, Onear, Ofar, HO⟩
  iapply (run_bind c _ _ _ _)
  isplitl [Xown Hv Tin]
  · iapply (loop_fetchOwn m K c f)
    isplitr; · iexact Hr
    isplitl
    · isplitl [Xown]; · iexact Xown
      isplitl [Hv]; · iexact Hv
      iexact Tin
    iempintro
  iintro ⟨Cin, -⟩
  iapply (run_bind c _ _ _ _)
  isplitl [Xsend Hs Tload]
  · iapply (loop_fetchSend m K c g)
    isplitr; · iexact Hr
    isplitl
    · isplitl [Xsend]; · iexact Xsend
      isplitl [Hs]; · iexact Hs
      iexact Tload
    iempintro
  iintro ⟨Cload, -⟩
  iapply (run_bind c _ _ _ _)
  isplitl [Cload Aload Tsent Trecv Onear HO]
  · iapply (loop_send m K c)
    isplitr; · iexact Hr
    isplitr [HO]
    · isplitl [Cload]; · iexact Cload
      isplitl [Aload]; · iexact Aload
      isplitl [Tsent]; · iexact Tsent
      isplitl [Trecv]; · iexact Trecv
      iexact Onear
    iexact HO
  iintro ⟨⟨Aload, Xsend, Csent⟩, HO⟩
  iapply (run_bind c _ _ _ _)
  isplitl [Crecv Arecv Tpassed Tother Ofar Cin Ain Tout Oown HO]
  · iapply (loop_pass m K c)
    isplitr; · iexact Hr
    isplitr [HO]
    · isplitl [Crecv]; · iexact Crecv
      isplitl [Arecv]; · iexact Arecv
      isplitl [Tpassed]; · iexact Tpassed
      isplitl [Tother]; · iexact Tother
      isplitl [Ofar]; · iexact Ofar
      iapply (Entails.of_eq (ownPre_all m c).symm)
      isplitl [Cin]; · iexact Cin
      isplitl [Ain]; · iexact Ain
      isplitl [Tout]; · iexact Tout
      iexact Oown
    iexact HO
  iintro ⟨⟨Arecv, Cpassed, Hown⟩, HO⟩
  ihave Hown := (Entails.of_eq (ownPost_all m c)) $$ Hown
  icases Hown with ⟨Ain, Xown, Cout⟩
  iapply (run_bind c _ _ _ _)
  isplitl [Csent Asent Cpassed Apassed Cother Aother HO]
  · iapply (loop_settle m K c)
    isplitr; · iexact Hr
    isplitr [HO]
    · isplitl [Csent]; · iexact Csent
      isplitl [Asent]; · iexact Asent
      isplitl [Cpassed]; · iexact Cpassed
      isplitl [Apassed]; · iexact Apassed
      isplitl [Cother]; · iexact Cother
      iexact Aother
    iexact HO
  iintro ⟨⟨Asent, Hs, Apassed, Onear, Aother, Ofar⟩, HO⟩
  iapply (run_wand c _ _ _)
  isplitl [Cout Aout HO]
  · iapply (loop_stored m K c)
    isplitr; · iexact Hr
    isplitr [HO]
    · isplitl [Cout]; · iexact Cout
      iexact Aout
    iexact HO
  iintro ⟨⟨Aout, Oown, Hv⟩, HO⟩
  isplitl [Abar Ain Aout Aload Asent Arecv Apassed Aother]
  · isplitl [Abar]; · iexact Abar
    isplitl [Ain]; · iexact Ain
    isplitl [Aout]; · iexact Aout
    isplitl [Aload]; · iexact Aload
    isplitl [Asent]; · iexact Asent
    isplitl [Arecv]; · iexact Arecv
    isplitl [Apassed]; · iexact Apassed
    iexact Aother
  isplitl [Xown Xsend Xkeep]
  · isplitl [Xown]; · iexact Xown
    isplitl [Xsend]; · iexact Xsend
    iexact Xkeep
  isplitl [Oown Onear Ofar]
  · isplitl [Oown]; · iexact Oown
    isplitl [Onear]; · iexact Onear
    iexact Ofar
  isplitl [Hv]; · iexact Hv
  isplitl [Hs]; · iexact Hs
  iexact HO

end Cert.KernelProof

end
-- ==== Proof.Start.lean ====
/-
# What the launch deals

The counters and duties of every semaphore, dealt to the devices that use them; and the credit each device has for what
its neighbours owe it.
-/
module

public import proofs.«01_k».proof.Proof.Whole
public import proofs.«01_k».proof.Proof.Gen.KernelIdeal.Frame

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The credit -/

section Credit
variable {f : Dev nD → Dev nD} (hf : ∀ c, f (f c) = c)
include hf

/-- If each device owes `k` on its neighbour's semaphore, each semaphore is owed `k` in all. -/
theorem sum_same (c : Dev nD) (i : Use) (k : ℕ) :
    ∑ d : Dev nD, (tallyAt (cell (f d) i) () k : CellTallies nD τ sig Unit) (cell c i) () = k := by
  rw [Finset.sum_eq_single (f c)]
  · rw [hf, tallyAt_apply, if_pos ⟨rfl, rfl⟩]
  · intro d _ hd
    rw [tallyAt_apply, if_neg]
    rintro ⟨h, -⟩
    exact hd (by rw [(cell_inj h).1, hf])
  · exact fun h => absurd (Finset.mem_univ _) h

/-- If each device owes all eight copies of its neighbour, each copy is owed once. -/
theorem sum_from (c : Dev nD) (g : Fin 8 → Use) (hg : Function.Injective g) (k : Fin 8) :
    ∑ d : Dev nD, oweFrom (fun n => cell (f d) (g n)) 0 (cell c (g k)) () = N := by
  have h (d : Dev nD) : oweFrom (fun n => cell (f d) (g n)) 0 (cell c (g k)) ()
      = (tallyAt (cell (f d) (g k)) () N : CellTallies nD τ sig Unit) (cell c (g k)) () := by
    unfold oweFrom
    rw [Finset.sum_apply, Finsupp.finset_sum_apply]
    refine Finset.sum_eq_single k (fun n _ hn => ?_) (fun h => absurd (Finset.mem_filter.mpr ⟨Finset.mem_univ k, Nat.zero_le k.val⟩) h)
    rw [tallyAt_apply, if_neg]
    rintro ⟨h, -⟩
    exact hn (hg (cell_inj h).2).symm
  rw [Finset.sum_congr rfl fun d _ => h d]
  exact sum_same hf c (g k) N
end Credit

/-- Nothing is owed on a semaphore of another purpose. -/
theorem from_other (c c' : Dev nD) (g : Fin 8 → Use) (i : Use) (h : ∀ n, g n ≠ i) :
    oweFrom (fun n => cell c (g n)) 0 (cell c' i) () = 0 := by
  by_contra hn
  obtain ⟨n, hn⟩ := oweFrom_pos (Nat.pos_of_ne_zero hn)
  exact h n (cell_inj hn).2.symm
/-- Nothing is owed on a semaphore of another purpose, by a signal. -/
theorem signal_other (c c' : Dev nD) (i i' : Use) (h : i ≠ i') :
    (tallyAt (cell c i) () 1 : CellTallies nD τ sig Unit) (cell c' i') () = 0 := by
  rw [tallyAt_apply, if_neg]
  rintro ⟨hc, -⟩
  exact h (cell_inj hc).2.symm

/-- What a device owes, part by part. -/
theorem owe₀_apply (d : Dev nD) (g : GSem nD τ sig) :
    owe₀ d g () = oweFrom (fun n => cell (beside d) (kOther n)) 0 g () + oweFrom (fun n => cell (across d) (kRecv n)) 0 g ()
      + (tallyAt (cell (beside d) kBar) () 1 : CellTallies nD τ sig Unit) g ()
      + (tallyAt (cell (across d) kBar) () 1 : CellTallies nD τ sig Unit) g () := rfl

/-- Each device is owed two signals; -/
theorem owed_bar (c : Dev nD) : ∑ d : Dev nD, owe₀ d (cell c kBar) () = 2 := by
  rw [Finset.sum_congr rfl fun d _ => owe₀_apply d _, Finset.sum_add_distrib, Finset.sum_add_distrib, Finset.sum_add_distrib,
    sum_same beside_beside, sum_same across_across, Finset.sum_eq_zero fun d _ => from_other (beside d) c kOther kBar fun n h => Sum.inr_ne_inl h,
    Finset.sum_eq_zero fun d _ => from_other (across d) c kRecv kBar fun n h => Sum.inr_ne_inl h, Nat.zero_add, Nat.zero_add]
/-- each copy from across; -/
theorem owed_recv (c : Dev nD) (k : Fin 8) : ∑ d : Dev nD, owe₀ d (cell c (kRecv k)) () = N := by
  rw [Finset.sum_congr rfl fun d _ => owe₀_apply d _, Finset.sum_add_distrib, Finset.sum_add_distrib, Finset.sum_add_distrib,
    sum_from across_across c kRecv (fun a b h => by simpa [kRecv] using h) k,
    Finset.sum_eq_zero fun d _ => from_other (beside d) c kOther (kRecv k) fun n h => by simp [kRecv, kOther] at h,
    Finset.sum_eq_zero fun d _ => signal_other (beside d) c kBar (kRecv k) Sum.inl_ne_inr,
    Finset.sum_eq_zero fun d _ => signal_other (across d) c kBar (kRecv k) Sum.inl_ne_inr, Nat.zero_add, Nat.add_zero, Nat.add_zero]
/-- and each copy from beside. -/
theorem owed_other (c : Dev nD) (k : Fin 8) : ∑ d : Dev nD, owe₀ d (cell c (kOther k)) () = N := by
  rw [Finset.sum_congr rfl fun d _ => owe₀_apply d _, Finset.sum_add_distrib, Finset.sum_add_distrib, Finset.sum_add_distrib,
    sum_from beside_beside c kOther (fun a b h => by simpa [kOther] using h) k,
    Finset.sum_eq_zero fun d _ => from_other (across d) c kRecv (kOther k) fun n h => by simp [kRecv, kOther] at h,
    Finset.sum_eq_zero fun d _ => signal_other (beside d) c kBar (kOther k) Sum.inl_ne_inr,
    Finset.sum_eq_zero fun d _ => signal_other (across d) c kBar (kOther k) Sum.inl_ne_inr, Nat.add_zero, Nat.add_zero, Nat.add_zero]

/-- The launch's credit on a semaphore is what is owed there. -/
theorem launch_at (c : Dev nD) (i : Use) (k : ℕ) (h : ∑ d : Dev nD, owe₀ d (cell c i) () = k) :
    tallyOn (cell c i) (launchCredit (Pipeline.owing owe₀) 0 (cell c i)) = (tallyAt (cell c i) () k : CellTallies nD τ sig Unit) := by
  unfold tallyAt
  refine congrArg _ (Finsupp.ext fun u => ?_)
  cases u
  rw [Pipeline.launchCredit_owing, Finsupp.single_eq_same, h]

/-- The credit a device is launched with. -/
theorem creds (c : Dev nD) : (Pipeline.launchCred owe₀ c : sProp 𝕄) ⊢ credits c := by
  have h : (Pipeline.launchCred owe₀ c : sProp 𝕄)
      = bigSep Finset.univ fun i : Use => cred (tallyOn (cell c i) (launchCredit (Pipeline.owing owe₀) 0 (cell c i))) := by
    unfold Pipeline.launchCred
    rw [bigSep_univ_equiv semOf]
    rfl
  rw [h, bigSep_use, launch_at c kBar 2 (owed_bar c)]
  simp only [launch_at c _ N (owed_recv c _), launch_at c _ N (owed_other c _)]
  unfold credits
  iintro ⟨Hb, -, -, -, -, Hr, -, Ho⟩
  isplitl [Hb]; · iexact Hb
  isplitl [Hr]; · iexact Hr
  iexact Ho

/-! ## The duties -/

/-- A duty: one of the two signals, or a copy. -/
abbrev Pay : Type := Bool ⊕ Spot
/-- The duty on a semaphore of the device. -/
def dutyOf (cj : Dev nD × Pay) : GSem nD τ sig × ℕ × Bool :=
  Sum.elim (fun b => (cell cj.1 kBar, 0, b)) (fun s => (cell cj.1 (.inr s), 0, false)) cj.2
theorem dutyOf_inj : Function.Injective dutyOf := by
  rintro ⟨c, j | j⟩ ⟨c', j' | j'⟩ h <;> obtain ⟨h1, h2⟩ := Prod.mk.inj h <;> obtain ⟨rfl, h3⟩ := cell_inj h1
  · exact congrArg _ (congrArg _ (Prod.mk.inj h2).2)
  · exact absurd h3 Sum.inl_ne_inr
  · exact absurd h3 Sum.inr_ne_inl
  · rw [Sum.inr.inj h3]
theorem cells_inj : Function.Injective (fun ci : Dev nD × Use => cell ci.1 ci.2) := by
  rintro ⟨c, i⟩ ⟨c', i'⟩ h
  obtain ⟨rfl, rfl⟩ := cell_inj h
  rfl
/-- Every semaphore of every device. -/
def allCells : Finset (GSem nD τ sig) := Finset.univ.map ⟨_, cells_inj⟩
/-- Every duty. -/
def allDuties : Finset (GSem nD τ sig × ℕ × Bool) := Finset.univ.map ⟨_, dutyOf_inj⟩

/-- The duties on the semaphores of a device. -/
def toks (c : Dev nD) : sProp 𝕄 :=
  iprop((tok c kBar true ∗ tok c kBar false) ∗ (bigSep Finset.univ fun k => tok c (kIn k) false)
    ∗ (bigSep Finset.univ fun k => tok c (kOut k) false) ∗ (bigSep Finset.univ fun k => tok c (kLoad k) false)
    ∗ (bigSep Finset.univ fun k => tok c (kSent k) false) ∗ (bigSep Finset.univ fun k => tok c (kRecv k) false)
    ∗ (bigSep Finset.univ fun k => tok c (kPassed k) false) ∗ bigSep Finset.univ fun k => tok c (kOther k) false)

omit [FloatOps F] in
theorem toks_eq (c : Dev nD) :
    (bigSep Finset.univ fun j : Pay => dutyTok ER (dutyOf (c, j)).1 (dutyOf (c, j)).2.1 (dutyOf (c, j)).2.2) = (toks c : sProp 𝕄) := by
  rw [bigSep_univ_sum, bigSep_univ_sum, bigSep_univ_sum, bigSep_univ_sum, bigSep_univ_sum, bigSep_univ_sum, bigSep_univ_sum,
    bigSep_univ_eq_bigSepL [true, false] (by decide) (by decide)]
  rfl

/-- The device across, as a bijection. -/
def acrossE : Dev nD ≃ Dev nD := ⟨across, across, across_across, across_across⟩
/-- The device beside, as a bijection. -/
def besideE : Dev nD ≃ Dev nD := ⟨beside, beside, beside_beside, beside_beside⟩

omit [FloatOps F] in
/-- The duties dealt to the devices that fulfil them. -/
theorem toks_around : (bigSep Finset.univ fun c : Dev nD => (toks c : sProp 𝕄)) ⊢ bigSep Finset.univ fun c : Dev nD => payToks c := by
  unfold toks payToks
  simp only [bigSep_sep']
  rw [bigSep_univ_equiv acrossE (fun c : Dev nD => (tok c kBar true : sProp 𝕄)),
    bigSep_univ_equiv besideE (fun c : Dev nD => (tok c kBar false : sProp 𝕄)),
    bigSep_univ_equiv acrossE (fun c : Dev nD => (bigSep Finset.univ fun k => tok c (kRecv k) false : sProp 𝕄)),
    bigSep_univ_equiv besideE (fun c : Dev nD => (bigSep Finset.univ fun k => tok c (kOther k) false : sProp 𝕄))]
  iintro ⟨⟨H1, H2⟩, H3, H4, H5, H6, H7, H8, H9⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The semaphores -/

/-- The kernel's own semaphores. -/
def ownSem (s : DmaSem sig) : SemLoc sig := .dma s
theorem ownSemFacts : Pipeline.OwnSemFacts cfg0.spec ownSem :=
  ⟨fun _ => by unfold ownSem; decide +revert, fun a b h => by injection h, fun _ w => w.elim0⟩

omit [FloatOps F] in
/-- The counters of a device's semaphores are those the launch deals. -/
theorem sems_eq (c : Dev nD) : (bigSep Finset.univ fun i : Use => (semVal (cell c i) 0 : sProp 𝕄))
    = iprop(unscopedSems0 c ∗ Pipeline.ownSems0 (Ix := Unit) (Name := ℕ) (U := UU) (Lvl := ℕ) (Val := Elt F) (τ := τ) ownSem c) := by
  unfold unscopedSems0 Pipeline.ownSems0
  rw [bigSep_eq_bigSepL_of_eq [semOf kBar] (by decide) (by decide), bigSep_univ_equiv spotSem, bigSep_univ_sum, bigSep_univ_of_subsingleton (i := ())]
  rfl

variable (m : (ℓ : Loc nD τ sig) → Buf (Elt F) ℓ)

/-! ## The deal -/

/-- What a device holds before any invariant is made. -/
def deal (c : Dev nD) : sProp 𝕄 :=
  iprop((bigSep Finset.univ fun i : Use => roundState ER (Rd m) (cell c i) 0) ∗ (bigSep Finset.univ fun i : Use => fresh c i)
    ∗ (bigSep Finset.univ fun i : Use => reached ER (cell c i) 0) ∗ toks c)

/-- The invariants and what is known of them. -/
def records (K : Dev nD × Use → ℕ) : sProp 𝕄 :=
  iprop((bigSep Finset.univ fun ci : Dev nD × Use => cellInv ER (Rd m) (K ci) (cell ci.1 ci.2))
    ∗ (bigSep Finset.univ fun ci : Dev nD × Use => reached ER (cell ci.1 ci.2) 0))
instance records_persistent (K : Dev nD × Use → ℕ) : BI.Persistent (records m K) := by unfold records; infer_instance

/-- What a device holds once they are made. -/
def dealt (c : Dev nD) : sProp 𝕄 :=
  iprop((∃ K, records m K) ∗ (bigSep Finset.univ fun i : Use => fresh c i) ∗ payToks c)

omit [FloatOps F] in
theorem fund_all : BI.own (ER (initOf allCells allDuties)) ⊢ (|==> bigSep Finset.univ (deal m) : sProp 𝕄) := by
  have hX (Φ : GSem nD τ sig → sProp 𝕄) : bigSep allCells Φ = bigSep Finset.univ fun c : Dev nD => bigSep Finset.univ fun i : Use => Φ (cell c i) := by
    unfold allCells; rw [bigSep_map, bigSep_univ_prod]; rfl
  have hT : bigSep allDuties (fun x => (dutyTok ER x.1 x.2.1 x.2.2 : sProp 𝕄)) = bigSep Finset.univ fun c : Dev nD => toks c := by
    unfold allDuties; rw [bigSep_map, bigSep_univ_prod]
    exact bigSep_congr fun c _ => toks_eq c
  unfold deal
  simp only [bigSep_sep']
  rw [← hX fun g => roundState ER (Rd m) g 0, ← hX fun g => atPos ER g 0 ∅ 0, ← hX fun g => reached ER g 0, ← hT]
  iintro HX
  imod (Rounds.fund ER (Rd m) allCells allDuties) $$ HX with ⟨Hst, Hr, Hat, Htok⟩
  imodintro
  isplitl [Hst]; · iexact Hst
  isplitl [Hat]; · iexact Hat
  isplitl [Hr]; · iexact Hr
  iexact Htok

omit [FloatOps F] in
/-- A device puts each of its semaphores into an invariant. -/
theorem enclose (c : Dev nD) :
    iprop(Pipeline.ownSems0 (Ix := Unit) (Name := ℕ) (U := UU) (Lvl := ℕ) (Val := Elt F) (τ := τ) ownSem c ∗ unscopedSems0 c ∗ deal m c)
      ⊢ |={Set.univ}=> iprop((bigSep Finset.univ fun i : Use => iprop(∃ κ : ℕ, cellInv ER (Rd m) κ (cell c i)))
          ∗ (bigSep Finset.univ fun i : Use => fresh c i) ∗ (bigSep Finset.univ fun i : Use => reached ER (cell c i) 0) ∗ toks c) := by
  have hmake : iprop((bigSep Finset.univ fun i : Use => semVal (cell c i) 0) ∗ bigSep Finset.univ fun i : Use => roundState ER (Rd m) (cell c i) 0)
      ⊢ (|={Set.univ}=> bigSep Finset.univ fun i : Use => iprop(∃ κ : ℕ, cellInv ER (Rd m) κ (cell c i)) : sProp 𝕄) := by
    rw [← bigSep_sep']
    exact (bigSep_mono fun i _ => (Rounds.body_intro ER (Rd m) (cell c i)).trans inv_alloc).trans (bigSep_fupd _ _)
  unfold deal
  iintro ⟨Ho, Hu, Hst, Hrest⟩
  imod hmake $$ [Ho Hu Hst] with HI
  · isplitl [Ho Hu]
    · rw [sems_eq]
      isplitl [Hu]; · iexact Hu
      iexact Ho
    iexact Hst
  imodintro
  isplitl [HI]; · iexact HI
  iexact Hrest

omit [FloatOps F] in
/-- The names of all invariants told to all devices, and the duties dealt. -/
theorem share_out :
    (bigSep Finset.univ fun c : Dev nD => iprop((bigSep Finset.univ fun i : Use => iprop(∃ κ : ℕ, cellInv ER (Rd m) κ (cell c i)))
          ∗ (bigSep Finset.univ fun i : Use => fresh c i) ∗ (bigSep Finset.univ fun i : Use => reached ER (cell c i) 0) ∗ toks c) : sProp 𝕄)
      ⊢ bigSep Finset.univ (dealt m) := by
  classical
  unfold dealt
  simp only [bigSep_sep']
  rw [← bigSep_univ_prod (fun ci : Dev nD × Use => iprop(∃ κ : ℕ, cellInv ER (Rd m) κ (cell ci.1 ci.2))),
    ← bigSep_univ_prod (fun ci : Dev nD × Use => (reached ER (cell ci.1 ci.2) 0 : sProp 𝕄))]
  iintro ⟨HI, Hat, #HR, Htok⟩
  ihave HK := (BI.bigSep_exists_pi Finset.univ (fun (ci : Dev nD × Use) (κ : ℕ) => (cellInv ER (Rd m) κ (cell ci.1 ci.2) : sProp 𝕄))) $$ HI
  icases HK with ⟨%K, #HI⟩
  isplitr
  · iapply (BI.bigSep_of_persistent Finset.univ (iprop(∃ K, records m K) : sProp 𝕄))
    iexists K
    unfold records
    isplitr; · iexact HI
    iexact HR
  isplitl [Hat]; · iexact Hat
  iapply (toks_around (F := F)); iexact Htok

omit [FloatOps F] in
/-- The deal, over all devices at once. -/
theorem deal_all :
    (bigSep Finset.univ fun c => iprop(Pipeline.ownSems0 (Ix := Unit) (Name := ℕ) (U := UU) (Lvl := ℕ) (Val := Elt F) (τ := τ) ownSem c
        ∗ unscopedSems0 c ∗ deal m c) : sProp 𝕄) ⊢ |={Set.univ}=> bigSep Finset.univ (dealt m) :=
  ((bigSep_mono fun c _ => enclose m c).trans (bigSep_fupd _ _)).trans (BI.fupd_mono (share_out m))

end Cert.KernelProof

end
-- ==== Proof.Run.lean ====
/-
# The run

The program, launched on the four devices: every weakly fair execution ends, with `x` as it was, the result at its final
contents and every semaphore at zero.
-/
module

public import proofs.«01_k».proof.Proof.Start
public import Idealize.ShloMosaic.Lib.Pipeline.CollectiveSegs

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Before and after the body -/

/-- What a device enters the body with, beside its scratch buffers. -/
def start (c : Dev nD) : sProp 𝕄 :=
  iprop((levAts L lv ∗ dealt m c) ∗ credits c ∗ ((c : Thread nD τ).loc main_arg0 ↦{fullShare} xF m c)
    ∗ ((c : Thread nD τ).loc main_v1 ↦{fullShare} oInit m c))
/-- What it leaves, beside its own semaphores and its scratch buffers. -/
def left (c : Dev nD) : sProp 𝕄 :=
  iprop(unscopedSems0 c ∗ ((c : Thread nD τ).loc main_arg0 ↦{fullShare} xF m c) ∗ ((c : Thread nD τ).loc main_v1 ↦{fullShare} oF m c))
/-- The scratch buffers at some contents. -/
abbrev scratch (c : Dev nD) : sProp 𝕄 := Pipeline.scopedRest (Ix := Unit) (Name := ℕ) (U := UU) (Lvl := ℕ) (Val := Elt F) cfg0.spec c
/-- The kernel's own semaphores at zero. -/
abbrev own0 (c : Dev nD) : sProp 𝕄 := Pipeline.ownSems0 (Ix := Unit) (Name := ℕ) (U := UU) (Lvl := ℕ) (Val := Elt F) (τ := τ) ownSem c

/-- The invariant before the body. -/
def Φ₀ (c : Dev nD) : sProp 𝕄 := iprop(start m c ∗ scratch c)
/-- The invariant after it. -/
def Φ₁ (c : Dev nD) : sProp 𝕄 := iprop(left m c ∗ own0 c ∗ scratch c)

/-- A semaphore waited on is done with, and its counter taken back. -/
theorem take_back (K : Dev nD × Use → ℕ) (c : Dev nD) :
    iprop(recs m K ∗ bigSep Finset.univ fun i : Use => spent c i) ⊢ |={Set.univ}=> iprop(unscopedSems0 c ∗ own0 c) := by
  classical
  rw [← sems_eq]
  refine BIBase.Entails.trans (sep_mono_left (BI.bigSep_of_persistent (Finset.univ : Finset Use) (recs m K))) ?_
  rw [← bigSep_sep']
  refine BIBase.Entails.trans (bigSep_mono fun i _ => ?_) (bigSep_fupd _ _)
  exact (sep_mono_left (recs_inv m K c i)).trans
    (Rounds.cell_close ER (Rd m) (Set.mem_univ _) (fun h => h) (R := 1) (Rd_later m (cell c i)))

/-- A program that ends with an update. -/
theorem run_update (c : Dev nD) (p : Code F) (Q : sProp 𝕄) : run c p iprop(|={Set.univ}=> Q) ⊢ run c p Q := by
  have h : run c p Q = run c (p >>= fun _ => pure ⟨⟩) Q := congrArg (fun p => run c p Q) (bind_pure p).symm
  rw [h]
  refine run_seq c p (pure ⟨⟩) _ _ ?_
  unfold run
  rw [Prog.pure_eq_ret, wp_ret]

/-- The body, from what the launch gives a device to what it takes back. -/
theorem run_body (c : Dev nD) : iprop(Φ₀ m c ∗ debt c (owe₀ c)) ⊢ run c (script c) iprop(Φ₁ m c ∗ debt c 0) := by
  unfold Φ₀ Φ₁ start left dealt scratch
  rw [scopedRest0_eq, oAll_eq, xAll_eq, oAll_eq]
  iintro ⟨⟨⟨⟨#HL, ⟨%K, #HR⟩, Hf, Ht⟩, Hc, Hx, Ho⟩, ⟨%f, Hv⟩, ⟨%g, Hs⟩, Hz⟩, HO⟩
  ihave #Hr := (show iprop(records m K ∗ levAts L lv) ⊢ (recs m K : sProp 𝕄) from by
    unfold records recs
    iintro ⟨⟨#H1, #H2⟩, #H3⟩
    isplitr; · iexact H1
    isplitr; · iexact H2
    iexact H3) $$ []
  · isplitr; · iexact HR
    iexact HL
  iapply (run_update c _ _)
  iapply (run_wand c _ _ _)
  isplitr [Hz]
  · iapply (run_script m K c f g)
    isplitr; · iexact Hr
    isplitl [Ht]; · iexact Ht
    isplitl [Hf]; · iexact Hf
    isplitl [Hc]; · iexact Hc
    isplitl [Hx]; · iexact Hx
    isplitl [Ho]; · iexact Ho
    isplitl [Hv]; · iapply (Entails.of_eq (vAll_eq c f)); iexact Hv
    isplitl [Hs]; · iapply (Entails.of_eq (sAll_eq c g)); iexact Hs
    iexact HO
  iintro ⟨Hsp, Hx, Ho, Hv, Hs, HO⟩
  imod (take_back m K c) $$ [Hsp] with ⟨Hu, Hw⟩
  · isplitr; · iexact Hr
    iexact Hsp
  imodintro
  isplitr [HO]
  · isplitl [Hu Hx Ho]
    · isplitl [Hu]; · iexact Hu
      isplitl [Hx]; · iexact Hx
      iexact Ho
    isplitl [Hw]; · iexact Hw
    isplitl [Hv]; · iexists (vF m c); iapply (Entails.of_eq (vAll_eq c (vF m c)).symm); iexact Hv
    isplitl [Hs]; · iexists (sF m c); iapply (Entails.of_eq (sAll_eq c (sF m c)).symm); iexact Hs
    iexact Hz
  iexact HO

/-! ## The pipeline's data -/

/-- One point, no windows: only the invariant and what is owed. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owe₀ c
    | ⟨_ + 1, _⟩ => 0

theorem owes_in (c : Dev nD) : (dats m 0 c).owesAt () (0 : Fin (cfg0.N + 1)) ⊢ debt c (owe₀ c) := by
  unfold Dat.owesAt debt
  iintro ⟨%W, -, H⟩
  iexists W; iexact H
theorem owes_out (c : Dev nD) : debt c 0 ⊢ (dats m 0 c).owesAt () (Fin.last cfg0.N) := by
  unfold Dat.owesAt debt
  iintro ⟨%W, H⟩
  iexists W
  isplitr; · ipureintro; exact fun _ _ => Or.inl trivial
  iexact H

set_option maxRecDepth 65536 in
/-- The body does what the pipeline asks of it. -/
theorem body_obligation (c : Dev nD) : BodyObligation (dats m 0 c) (defs₀ (F := F)) 𝒱₀ () Set.univ := fun t => by
  rw [fin_N0 t]
  rw [show (Finset.univ : Finset (Fin cfg0.W)) = ∅ from rfl, bigSep_empty, bigSep_empty]
  show iprop(Φ₀ m c ∗ (dats m 0 c).owesAt () (0 : Fin (cfg0.N + 1)) ∗ emp)
    ⊢ wp frame (wpE (defs₀ (F := F)) 𝒱₀ (c : Thread nD τ) none) Set.univ (bodyAt0 (F := F) t0_0)
      (fun _ => iprop(Φ₁ m c ∗ (dats m 0 c).owesAt () (Fin.last cfg0.N) ∗ emp))
  rw [body_eq]
  show _ ⊢ wp frame (wpE (defs₀ (F := F)) 𝒱₀ (c : Thread nD τ) none) Set.univ (.op .deviceId fun d => script (F := F) d) _
  rw [wp_deviceId]
  show _ ⊢ run c (script c) _
  iintro ⟨HΦ, HO, -⟩
  iapply (run_wand c _ _ _)
  isplitl
  · iapply (run_body m c)
    isplitl [HΦ]; · iexact HΦ
    iapply (owes_in m c); iexact HO
  iintro ⟨HΦ, HO⟩
  isplitl [HΦ]; · iexact HΦ
  isplitl [HO]; · iapply (owes_out m c); iexact HO
  iempintro

/-! ## The launch -/

theorem share_eq (c : Dev nD) (w : Fin cfg0.W) : (dats m 0 c).share w = fullShare := w.elim0

/-- The launch element: the pipeline's, and the counters and duties of the kernel. -/
def u₀ : UU := (initOf (Pipeline.cells cfgs cellOf_inj) (Pipeline.launchToks cfgs cellOf_inj), initOf allCells allDuties)

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ dealt m c)
      ⊢ |={Set.univ}=> iprop(start m c ∗ emp) := by
  have h : (Pipeline.unscopedRestP Pipeline.Prefetch.none cfg0.spec c (fun b => m ((c : Thread nD τ).loc b)) : sProp 𝕄)
      = iprop(((c : Thread nD τ).loc main_arg0 ↦{fullShare} xF m c) ∗ ((c : Thread nD τ).loc main_v1 ↦{fullShare} oInit m c)) :=
    Pipeline.unscopedRestP_eq_of_list cfg0.spec c Pipeline.Prefetch.none _ [main_arg0, main_v1] (by decide) (by decide)
  rw [h]
  iintro ⟨⟨Hx, Ho⟩, Hl, Hc, -, Hd⟩
  ihave Hc' := (creds (F := F) c) $$ Hc
  imodintro
  unfold start
  isplitl
  · isplitl [Hl Hd]
    · isplitl [Hl]; · iexact Hl
      iexact Hd
    isplitl [Hc']; · iexact Hc'
    isplitl [Hx]; · iexact Hx
    iexact Ho
  iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ Φ₀ m c
  unfold Φ₀ scratch
  iintro ⟨Hs, -, Hr⟩
  isplitl [Hs]; · iexact Hs
  iexact Hr

theorem phi1_exit (c : Dev nD) :
    (dats m 0 c).Φ (Fin.last cfg0.N) ⊢ iprop(left m c ∗ Pipeline.ownSems0 ownSem c ∗ Pipeline.scopedRest cfg0.spec c) :=
  show Φ₁ m c ⊢ _ from BIBase.Entails.rfl

/-- What is read off the memory of a device at the end. -/
def endOf (c : Dev nD) (s : MemSt nD τ sig (Elt F)) : Prop :=
  s.mem ((c : Thread nD τ).loc main_arg0) = xF m c ∧ s.mem ((c : Thread nD τ).loc main_v1) = oF m c
    ∧ ∀ sm : SemLoc sig, sm.isScoped .tc = false → s.sem ((c.tc : Thread nD τ), sm) = 0

theorem left_read (c : Dev nD) (s' : Phys nD τ sig (Elt F)) :
    iprop(left m c ∗ emp ∗ SI s') ⊢ |={Set.univ}=> iprop(⌜endOf m c s'.mem⌝ ∗ SI s') := by
  unfold left
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro
    exact ⟨Buf.eq_of_forall_mem_univ hx, Buf.eq_of_forall_mem_univ ho, hs⟩
  iexact HSI

theorem waits (c : Dev nD) : (levAts L lv : sProp 𝕄) ⊢ Pipeline.cellsWaits cfgs (dats m) () 0 c :=
  Pipeline.cellsWaits_intro cfgs (dats m) () 0 c fun w s t => w.elim0

set_option maxRecDepth 65536 in
/-- From any memory with zero counters every weakly fair execution of the program ends, and in every final state each
    device's `x` is as it was, its result at the final contents, and every counter zero. -/
theorem run_main : θ_run defs (onTc (τ := τ) (main (F := F))) ⟨m, fun _ => 0, ρ⟩ (fun r =>
    (∀ c : Dev nD, r.2.mem ((c : Thread nD τ).loc main_arg0) = xF m c ∧ r.2.mem ((c : Thread nD τ).loc main_v1) = oF m c)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := owe₀) (howed₀ := fun _ => rfl) (howedN := fun _ => rfl)
    (L := L) (lv := lv) (hL := L_of_ne) (hwaits := waits m)
    (G := deal m) (G' := dealt m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := deal_all m)
    (hA := fun _ w => w.elim0) (hpf := fun _ k => k.elim0)
    (X := start m) (Y := left m) (Z := fun _ => iprop(emp))
    (hX := start_intro m ρ) (hin := phi0_intro m) (hout := phi1_exit m)
    (QY := endOf m) (hY := left_read m)
    (hQ := fun _ h hs => ⟨fun c => ⟨(h c).2.2.1, (h c).2.2.2.1⟩, sem_eq_zero hs fun c => (h c).2.2.2.2⟩)

end Cert.KernelProof

end
-- ==== Proof.Value.lean ====
/-
# The value

The rows of the whole array, cut by rows over the first axis of the mesh, end cut by columns over it: each device's result
holds its columns of every row.  The reference returns the whole array as it is.
-/
module

public import proofs.«01_k».proof.Proof.Run
public import proofs.«01_k».proof.Proof.Gen.ReferenceIdeal
public import Idealize.ShloMosaic.Lib.Layout
public import Idealize.ShloMosaic.Lib.StableHlo.Run

@[expose] public section

noncomputable section

namespace Cert.KernelProof

open Cert.KernelIdeal Cert.KernelIdeal.Gen
open Idealize.ShloMosaic Idealize.ShloMosaic.TcCoe
open Idealize.SL.Sem

variable {F : FTy → Type} [FloatOps F]

/-- The whole array. -/
abbrev Whole : Shape := ⟨2, ![16384, 2048]⟩

/-- A device's block along a dimension cut over the first axis is its place on that axis. -/
theorem lin_first (c : Dev nD) : Layout.meshLin [2, 2] c.val [0] = mx c := by revert c; decide

/-- The row of the whole array a row of the device's block is. -/
theorem home_row (c : Dev nD) {r : ℕ} (hr : r < 16384) : mx (homeOf c r) = r / 8192 := by
  have hc := mx_lt c
  unfold homeOf
  split
  · exact Eq.symm ‹_›
  · show (2 * (r / 8192) + r % 8192 / 4096) % 4 / 2 = r / 8192
    omega

/-- If the devices hold the whole array cut by rows over the first axis, their results are it cut by columns over it. -/
theorem result_eq (m : (ℓ : Loc nD τ sig) → Buf (Elt F) ℓ) (v : Whole.Idx → Elt F .f32)
    (h : ∀ c : Dev nD, xF m c = Layout.blockN ⟨2, ![8192, 2048]⟩ Whole (Layout.meshBlock [2, 2] ![[0], []] c) v) (c : Dev nD) :
    oF m c = Layout.blockN ⟨2, ![16384, 1024]⟩ Whole (Layout.meshBlock [2, 2] ![[], [0]] c) v := by
  funext i
  have h0 : (i 0).val < 16384 := (i 0).isLt
  have h1 : (i 1).val < 1024 := (i 1).isLt
  have hc := mx_lt c
  unfold oF
  rw [h, Layout.blockN_apply, Layout.blockN_apply]
  refine congrArg v (funext fun b => Fin.ext ?_)
  rw [Layout.TilesN.idx_val, Layout.TilesN.idx_val]
  match b with
  | ⟨0, _⟩ =>
    show Layout.meshLin [2, 2] (homeOf c (i 0).val).val [0] * 8192 + ((i 0).val % 8192) % 8192 = 0 * 16384 + (i 0).val
    rw [lin_first, home_row c h0]
    omega
  | ⟨1, _⟩ =>
    show 0 * 2048 + (1024 * mx c + (i 1).val) % 2048 = Layout.meshLin [2, 2] c.val [0] * 1024 + (i 1).val
    rw [lin_first]
    omega

/-- The reference does nothing: its one array ends as it began, and there is no semaphore. -/
theorem run_reference (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩
      (fun r => (∀ c : Dev Cert.ReferenceIdeal.nD,
          r.2.mem ((c : Thread Cert.ReferenceIdeal.nD Cert.ReferenceIdeal.τ).loc Cert.ReferenceIdeal.main_arg0)
            = m ((c : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => h c Cert.ReferenceIdeal.main_arg0, funext fun g => by
      obtain ⟨t, s⟩ := g
      cases s <;> rename_i s <;> exact s.elim0⟩)
    (StableHlo.run_seq (by decide) (by decide) Cert.ReferenceIdeal.defs Cert.ReferenceIdeal.main (fun _ => []) (fun _ => rfl) (fun _ => trivial) m ρ)

end Cert.KernelProof

end
-- ==== Proof.lean ====
/-
# The claims

The kernel runs to the end from any memory, leaves its argument as it was and every semaphore at zero, at either
instance; so does the reference; and each device's result is its columns of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem

/-- The printed kernel, at either instance. -/
theorem frame_kernel : Cert.quiescent_Kernel := fun m g _ =>
  (θ_run Cert.KernelIdeal.defs _ _).mono (fun _ h => ⟨fun c => (h.1 c).1, h.2⟩) (KernelProof.run_main (F := Bits) m g)
theorem frame_ideal : Cert.quiescent_KernelIdeal := fun m g _ =>
  (θ_run Cert.KernelIdeal.defs _ _).mono (fun _ h => ⟨fun c => (h.1 c).1, h.2⟩) (KernelProof.run_main (F := Ideal) m g)
/-- The reference. -/
theorem frame_reference : Cert.quiescent_ReferenceIdeal := fun m g _ => KernelProof.run_reference m g

/-- The kernel's results are the reference's. -/
theorem algebraic : Cert.algebraic_KernelIdeal_ReferenceIdeal := fun m g m' g' _ hm =>
  ⟨_, (θ_run Cert.KernelIdeal.defs _ _).mono
      (fun _ h c => ⟨(h.1 c).2.trans (KernelProof.result_eq m _ hm c), (h.1 c).1⟩) (KernelProof.run_main (F := Ideal) m g),
    (θ_run Cert.ReferenceIdeal.defs _ _).mono (fun _ h => ⟨h.1 0, h.1 0⟩) (KernelProof.run_reference m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
